-- ==== Defs.lean ====
def Pre_Kernel [hPre_sends_0123_Kernel : Cert.Pre_sends_0123_Kernel.Facts] (m : (ℓ : Loc Cert.Kernel.nD Cert.Kernel.τ Cert.Kernel.sig) → Buf (Elt Bits) ℓ) : Prop :=
  ∀ c : Dev Cert.Kernel.nD,
    (Cert.Pre_sends_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_0132_Kernel [hPre_sends_0132_Kernel : Cert.Pre_sends_0132_Kernel.Facts] (m : (ℓ : Loc Cert.Kernel.nD Cert.Kernel.τ Cert.Kernel.sig) → Buf (Elt Bits) ℓ) : Prop :=
  ∀ c : Dev Cert.Kernel.nD,
    (Cert.Pre_sends_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_0213_Kernel [hPre_sends_0213_Kernel : Cert.Pre_sends_0213_Kernel.Facts] (m : (ℓ : Loc Cert.Kernel.nD Cert.Kernel.τ Cert.Kernel.sig) → Buf (Elt Bits) ℓ) : Prop :=
  ∀ c : Dev Cert.Kernel.nD,
    (Cert.Pre_sends_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_0231_Kernel [hPre_sends_0231_Kernel : Cert.Pre_sends_0231_Kernel.Facts] (m : (ℓ : Loc Cert.Kernel.nD Cert.Kernel.τ Cert.Kernel.sig) → Buf (Elt Bits) ℓ) : Prop :=
  ∀ c : Dev Cert.Kernel.nD,
    (Cert.Pre_sends_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_0312_Kernel [hPre_sends_0312_Kernel : Cert.Pre_sends_0312_Kernel.Facts] (m : (ℓ : Loc Cert.Kernel.nD Cert.Kernel.τ Cert.Kernel.sig) → Buf (Elt Bits) ℓ) : Prop :=
  ∀ c : Dev Cert.Kernel.nD,
    (Cert.Pre_sends_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_0321_Kernel [hPre_sends_0321_Kernel : Cert.Pre_sends_0321_Kernel.Facts] (m : (ℓ : Loc Cert.Kernel.nD Cert.Kernel.τ Cert.Kernel.sig) → Buf (Elt Bits) ℓ) : Prop :=
  ∀ c : Dev Cert.Kernel.nD,
    (Cert.Pre_sends_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_1023_Kernel [hPre_sends_1023_Kernel : Cert.Pre_sends_1023_Kernel.Facts] (m : (ℓ : Loc Cert.Kernel.nD Cert.Kernel.τ Cert.Kernel.sig) → Buf (Elt Bits) ℓ) : Prop :=
  ∀ c : Dev Cert.Kernel.nD,
    (Cert.Pre_sends_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_1032_Kernel [hPre_sends_1032_Kernel : Cert.Pre_sends_1032_Kernel.Facts] (m : (ℓ : Loc Cert.Kernel.nD Cert.Kernel.τ Cert.Kernel.sig) → Buf (Elt Bits) ℓ) : Prop :=
  ∀ c : Dev Cert.Kernel.nD,
    (Cert.Pre_sends_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_1203_Kernel [hPre_sends_1203_Kernel : Cert.Pre_sends_1203_Kernel.Facts] (m : (ℓ : Loc Cert.Kernel.nD Cert.Kernel.τ Cert.Kernel.sig) → Buf (Elt Bits) ℓ) : Prop :=
  ∀ c : Dev Cert.Kernel.nD,
    (Cert.Pre_sends_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_1230_Kernel [hPre_sends_1230_Kernel : Cert.Pre_sends_1230_Kernel.Facts] (m : (ℓ : Loc Cert.Kernel.nD Cert.Kernel.τ Cert.Kernel.sig) → Buf (Elt Bits) ℓ) : Prop :=
  ∀ c : Dev Cert.Kernel.nD,
    (Cert.Pre_sends_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_1302_Kernel [hPre_sends_1302_Kernel : Cert.Pre_sends_1302_Kernel.Facts] (m : (ℓ : Loc Cert.Kernel.nD Cert.Kernel.τ Cert.Kernel.sig) → Buf (Elt Bits) ℓ) : Prop :=
  ∀ c : Dev Cert.Kernel.nD,
    (Cert.Pre_sends_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_1320_Kernel [hPre_sends_1320_Kernel : Cert.Pre_sends_1320_Kernel.Facts] (m : (ℓ : Loc Cert.Kernel.nD Cert.Kernel.τ Cert.Kernel.sig) → Buf (Elt Bits) ℓ) : Prop :=
  ∀ c : Dev Cert.Kernel.nD,
    (Cert.Pre_sends_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_2013_Kernel [hPre_sends_2013_Kernel : Cert.Pre_sends_2013_Kernel.Facts] (m : (ℓ : Loc Cert.Kernel.nD Cert.Kernel.τ Cert.Kernel.sig) → Buf (Elt Bits) ℓ) : Prop :=
  ∀ c : Dev Cert.Kernel.nD,
    (Cert.Pre_sends_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_2031_Kernel [hPre_sends_2031_Kernel : Cert.Pre_sends_2031_Kernel.Facts] (m : (ℓ : Loc Cert.Kernel.nD Cert.Kernel.τ Cert.Kernel.sig) → Buf (Elt Bits) ℓ) : Prop :=
  ∀ c : Dev Cert.Kernel.nD,
    (Cert.Pre_sends_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_2103_Kernel [hPre_sends_2103_Kernel : Cert.Pre_sends_2103_Kernel.Facts] (m : (ℓ : Loc Cert.Kernel.nD Cert.Kernel.τ Cert.Kernel.sig) → Buf (Elt Bits) ℓ) : Prop :=
  ∀ c : Dev Cert.Kernel.nD,
    (Cert.Pre_sends_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_2130_Kernel [hPre_sends_2130_Kernel : Cert.Pre_sends_2130_Kernel.Facts] (m : (ℓ : Loc Cert.Kernel.nD Cert.Kernel.τ Cert.Kernel.sig) → Buf (Elt Bits) ℓ) : Prop :=
  ∀ c : Dev Cert.Kernel.nD,
    (Cert.Pre_sends_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_2301_Kernel [hPre_sends_2301_Kernel : Cert.Pre_sends_2301_Kernel.Facts] (m : (ℓ : Loc Cert.Kernel.nD Cert.Kernel.τ Cert.Kernel.sig) → Buf (Elt Bits) ℓ) : Prop :=
  ∀ c : Dev Cert.Kernel.nD,
    (Cert.Pre_sends_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_2310_Kernel [hPre_sends_2310_Kernel : Cert.Pre_sends_2310_Kernel.Facts] (m : (ℓ : Loc Cert.Kernel.nD Cert.Kernel.τ Cert.Kernel.sig) → Buf (Elt Bits) ℓ) : Prop :=
  ∀ c : Dev Cert.Kernel.nD,
    (Cert.Pre_sends_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_3012_Kernel [hPre_sends_3012_Kernel : Cert.Pre_sends_3012_Kernel.Facts] (m : (ℓ : Loc Cert.Kernel.nD Cert.Kernel.τ Cert.Kernel.sig) → Buf (Elt Bits) ℓ) : Prop :=
  ∀ c : Dev Cert.Kernel.nD,
    (Cert.Pre_sends_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_3021_Kernel [hPre_sends_3021_Kernel : Cert.Pre_sends_3021_Kernel.Facts] (m : (ℓ : Loc Cert.Kernel.nD Cert.Kernel.τ Cert.Kernel.sig) → Buf (Elt Bits) ℓ) : Prop :=
  ∀ c : Dev Cert.Kernel.nD,
    (Cert.Pre_sends_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_3102_Kernel [hPre_sends_3102_Kernel : Cert.Pre_sends_3102_Kernel.Facts] (m : (ℓ : Loc Cert.Kernel.nD Cert.Kernel.τ Cert.Kernel.sig) → Buf (Elt Bits) ℓ) : Prop :=
  ∀ c : Dev Cert.Kernel.nD,
    (Cert.Pre_sends_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_3120_Kernel [hPre_sends_3120_Kernel : Cert.Pre_sends_3120_Kernel.Facts] (m : (ℓ : Loc Cert.Kernel.nD Cert.Kernel.τ Cert.Kernel.sig) → Buf (Elt Bits) ℓ) : Prop :=
  ∀ c : Dev Cert.Kernel.nD,
    (Cert.Pre_sends_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_3201_Kernel [hPre_sends_3201_Kernel : Cert.Pre_sends_3201_Kernel.Facts] (m : (ℓ : Loc Cert.Kernel.nD Cert.Kernel.τ Cert.Kernel.sig) → Buf (Elt Bits) ℓ) : Prop :=
  ∀ c : Dev Cert.Kernel.nD,
    (Cert.Pre_sends_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_sends_3210_Kernel [hPre_sends_3210_Kernel : Cert.Pre_sends_3210_Kernel.Facts] (m : (ℓ : Loc Cert.Kernel.nD Cert.Kernel.τ Cert.Kernel.sig) → Buf (Elt Bits) ℓ) : Prop :=
  ∀ c : Dev Cert.Kernel.nD,
    (Cert.Pre_sends_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_sends_0123_Kernel : Cert.Pre_sends_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_0132_Kernel [hPre_sends_0132_Kernel : Cert.Pre_sends_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_0213_Kernel [hPre_sends_0213_Kernel : Cert.Pre_sends_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_0231_Kernel [hPre_sends_0231_Kernel : Cert.Pre_sends_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_0312_Kernel [hPre_sends_0312_Kernel : Cert.Pre_sends_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_0321_Kernel [hPre_sends_0321_Kernel : Cert.Pre_sends_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_1023_Kernel [hPre_sends_1023_Kernel : Cert.Pre_sends_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_1032_Kernel [hPre_sends_1032_Kernel : Cert.Pre_sends_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_1203_Kernel [hPre_sends_1203_Kernel : Cert.Pre_sends_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_1230_Kernel [hPre_sends_1230_Kernel : Cert.Pre_sends_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_1302_Kernel [hPre_sends_1302_Kernel : Cert.Pre_sends_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_1320_Kernel [hPre_sends_1320_Kernel : Cert.Pre_sends_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_2013_Kernel [hPre_sends_2013_Kernel : Cert.Pre_sends_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_2031_Kernel [hPre_sends_2031_Kernel : Cert.Pre_sends_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_2103_Kernel [hPre_sends_2103_Kernel : Cert.Pre_sends_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_2130_Kernel [hPre_sends_2130_Kernel : Cert.Pre_sends_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_2301_Kernel [hPre_sends_2301_Kernel : Cert.Pre_sends_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_2310_Kernel [hPre_sends_2310_Kernel : Cert.Pre_sends_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_3012_Kernel [hPre_sends_3012_Kernel : Cert.Pre_sends_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_3021_Kernel [hPre_sends_3021_Kernel : Cert.Pre_sends_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_3102_Kernel [hPre_sends_3102_Kernel : Cert.Pre_sends_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_3120_Kernel [hPre_sends_3120_Kernel : Cert.Pre_sends_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_3201_Kernel [hPre_sends_3201_Kernel : Cert.Pre_sends_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sends_3210_Kernel [hPre_sends_3210_Kernel : Cert.Pre_sends_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_sends_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sends_0123_ReferenceIdeal [hPre_sends_0123_ReferenceIdeal : Cert.Pre_sends_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_0132_ReferenceIdeal [hPre_sends_0132_ReferenceIdeal : Cert.Pre_sends_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_0213_ReferenceIdeal [hPre_sends_0213_ReferenceIdeal : Cert.Pre_sends_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_0231_ReferenceIdeal [hPre_sends_0231_ReferenceIdeal : Cert.Pre_sends_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_0312_ReferenceIdeal [hPre_sends_0312_ReferenceIdeal : Cert.Pre_sends_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_0321_ReferenceIdeal [hPre_sends_0321_ReferenceIdeal : Cert.Pre_sends_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_1023_ReferenceIdeal [hPre_sends_1023_ReferenceIdeal : Cert.Pre_sends_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_1032_ReferenceIdeal [hPre_sends_1032_ReferenceIdeal : Cert.Pre_sends_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_1203_ReferenceIdeal [hPre_sends_1203_ReferenceIdeal : Cert.Pre_sends_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_1230_ReferenceIdeal [hPre_sends_1230_ReferenceIdeal : Cert.Pre_sends_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_1302_ReferenceIdeal [hPre_sends_1302_ReferenceIdeal : Cert.Pre_sends_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_1320_ReferenceIdeal [hPre_sends_1320_ReferenceIdeal : Cert.Pre_sends_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_2013_ReferenceIdeal [hPre_sends_2013_ReferenceIdeal : Cert.Pre_sends_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_2031_ReferenceIdeal [hPre_sends_2031_ReferenceIdeal : Cert.Pre_sends_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_2103_ReferenceIdeal [hPre_sends_2103_ReferenceIdeal : Cert.Pre_sends_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_2130_ReferenceIdeal [hPre_sends_2130_ReferenceIdeal : Cert.Pre_sends_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_2301_ReferenceIdeal [hPre_sends_2301_ReferenceIdeal : Cert.Pre_sends_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_2310_ReferenceIdeal [hPre_sends_2310_ReferenceIdeal : Cert.Pre_sends_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_3012_ReferenceIdeal [hPre_sends_3012_ReferenceIdeal : Cert.Pre_sends_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_3021_ReferenceIdeal [hPre_sends_3021_ReferenceIdeal : Cert.Pre_sends_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_3102_ReferenceIdeal [hPre_sends_3102_ReferenceIdeal : Cert.Pre_sends_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_3120_ReferenceIdeal [hPre_sends_3120_ReferenceIdeal : Cert.Pre_sends_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_3201_ReferenceIdeal [hPre_sends_3201_ReferenceIdeal : Cert.Pre_sends_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_sends_3210_ReferenceIdeal [hPre_sends_3210_ReferenceIdeal : Cert.Pre_sends_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sends_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_sends_0123_Kernel : Cert.Pre_sends_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_0132_Kernel [hKernel : Cert.Kernel.Facts] [hPre_sends_0132_Kernel : Cert.Pre_sends_0132_Kernel.Facts] : Prop :=
  ∀ (m : (ℓ : Loc Cert.Kernel.nD Cert.Kernel.τ Cert.Kernel.sig) → Buf (Elt Bits) ℓ) (g : Dev Cert.Kernel.nD → PrngReg), Pre_Kernel_sends_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_0213_Kernel [hKernel : Cert.Kernel.Facts] [hPre_sends_0213_Kernel : Cert.Pre_sends_0213_Kernel.Facts] : Prop :=
  ∀ (m : (ℓ : Loc Cert.Kernel.nD Cert.Kernel.τ Cert.Kernel.sig) → Buf (Elt Bits) ℓ) (g : Dev Cert.Kernel.nD → PrngReg), Pre_Kernel_sends_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_0231_Kernel [hKernel : Cert.Kernel.Facts] [hPre_sends_0231_Kernel : Cert.Pre_sends_0231_Kernel.Facts] : Prop :=
  ∀ (m : (ℓ : Loc Cert.Kernel.nD Cert.Kernel.τ Cert.Kernel.sig) → Buf (Elt Bits) ℓ) (g : Dev Cert.Kernel.nD → PrngReg), Pre_Kernel_sends_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_0312_Kernel [hKernel : Cert.Kernel.Facts] [hPre_sends_0312_Kernel : Cert.Pre_sends_0312_Kernel.Facts] : Prop :=
  ∀ (m : (ℓ : Loc Cert.Kernel.nD Cert.Kernel.τ Cert.Kernel.sig) → Buf (Elt Bits) ℓ) (g : Dev Cert.Kernel.nD → PrngReg), Pre_Kernel_sends_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_0321_Kernel [hKernel : Cert.Kernel.Facts] [hPre_sends_0321_Kernel : Cert.Pre_sends_0321_Kernel.Facts] : Prop :=
  ∀ (m : (ℓ : Loc Cert.Kernel.nD Cert.Kernel.τ Cert.Kernel.sig) → Buf (Elt Bits) ℓ) (g : Dev Cert.Kernel.nD → PrngReg), Pre_Kernel_sends_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_1023_Kernel [hKernel : Cert.Kernel.Facts] [hPre_sends_1023_Kernel : Cert.Pre_sends_1023_Kernel.Facts] : Prop :=
  ∀ (m : (ℓ : Loc Cert.Kernel.nD Cert.Kernel.τ Cert.Kernel.sig) → Buf (Elt Bits) ℓ) (g : Dev Cert.Kernel.nD → PrngReg), Pre_Kernel_sends_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_1032_Kernel [hKernel : Cert.Kernel.Facts] [hPre_sends_1032_Kernel : Cert.Pre_sends_1032_Kernel.Facts] : Prop :=
  ∀ (m : (ℓ : Loc Cert.Kernel.nD Cert.Kernel.τ Cert.Kernel.sig) → Buf (Elt Bits) ℓ) (g : Dev Cert.Kernel.nD → PrngReg), Pre_Kernel_sends_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_1203_Kernel [hKernel : Cert.Kernel.Facts] [hPre_sends_1203_Kernel : Cert.Pre_sends_1203_Kernel.Facts] : Prop :=
  ∀ (m : (ℓ : Loc Cert.Kernel.nD Cert.Kernel.τ Cert.Kernel.sig) → Buf (Elt Bits) ℓ) (g : Dev Cert.Kernel.nD → PrngReg), Pre_Kernel_sends_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_1230_Kernel [hKernel : Cert.Kernel.Facts] [hPre_sends_1230_Kernel : Cert.Pre_sends_1230_Kernel.Facts] : Prop :=
  ∀ (m : (ℓ : Loc Cert.Kernel.nD Cert.Kernel.τ Cert.Kernel.sig) → Buf (Elt Bits) ℓ) (g : Dev Cert.Kernel.nD → PrngReg), Pre_Kernel_sends_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_1302_Kernel [hKernel : Cert.Kernel.Facts] [hPre_sends_1302_Kernel : Cert.Pre_sends_1302_Kernel.Facts] : Prop :=
  ∀ (m : (ℓ : Loc Cert.Kernel.nD Cert.Kernel.τ Cert.Kernel.sig) → Buf (Elt Bits) ℓ) (g : Dev Cert.Kernel.nD → PrngReg), Pre_Kernel_sends_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_1320_Kernel [hKernel : Cert.Kernel.Facts] [hPre_sends_1320_Kernel : Cert.Pre_sends_1320_Kernel.Facts] : Prop :=
  ∀ (m : (ℓ : Loc Cert.Kernel.nD Cert.Kernel.τ Cert.Kernel.sig) → Buf (Elt Bits) ℓ) (g : Dev Cert.Kernel.nD → PrngReg), Pre_Kernel_sends_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_2013_Kernel [hKernel : Cert.Kernel.Facts] [hPre_sends_2013_Kernel : Cert.Pre_sends_2013_Kernel.Facts] : Prop :=
  ∀ (m : (ℓ : Loc Cert.Kernel.nD Cert.Kernel.τ Cert.Kernel.sig) → Buf (Elt Bits) ℓ) (g : Dev Cert.Kernel.nD → PrngReg), Pre_Kernel_sends_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_2031_Kernel [hKernel : Cert.Kernel.Facts] [hPre_sends_2031_Kernel : Cert.Pre_sends_2031_Kernel.Facts] : Prop :=
  ∀ (m : (ℓ : Loc Cert.Kernel.nD Cert.Kernel.τ Cert.Kernel.sig) → Buf (Elt Bits) ℓ) (g : Dev Cert.Kernel.nD → PrngReg), Pre_Kernel_sends_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_2103_Kernel [hKernel : Cert.Kernel.Facts] [hPre_sends_2103_Kernel : Cert.Pre_sends_2103_Kernel.Facts] : Prop :=
  ∀ (m : (ℓ : Loc Cert.Kernel.nD Cert.Kernel.τ Cert.Kernel.sig) → Buf (Elt Bits) ℓ) (g : Dev Cert.Kernel.nD → PrngReg), Pre_Kernel_sends_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_2130_Kernel [hKernel : Cert.Kernel.Facts] [hPre_sends_2130_Kernel : Cert.Pre_sends_2130_Kernel.Facts] : Prop :=
  ∀ (m : (ℓ : Loc Cert.Kernel.nD Cert.Kernel.τ Cert.Kernel.sig) → Buf (Elt Bits) ℓ) (g : Dev Cert.Kernel.nD → PrngReg), Pre_Kernel_sends_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_2301_Kernel [hKernel : Cert.Kernel.Facts] [hPre_sends_2301_Kernel : Cert.Pre_sends_2301_Kernel.Facts] : Prop :=
  ∀ (m : (ℓ : Loc Cert.Kernel.nD Cert.Kernel.τ Cert.Kernel.sig) → Buf (Elt Bits) ℓ) (g : Dev Cert.Kernel.nD → PrngReg), Pre_Kernel_sends_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_2310_Kernel [hKernel : Cert.Kernel.Facts] [hPre_sends_2310_Kernel : Cert.Pre_sends_2310_Kernel.Facts] : Prop :=
  ∀ (m : (ℓ : Loc Cert.Kernel.nD Cert.Kernel.τ Cert.Kernel.sig) → Buf (Elt Bits) ℓ) (g : Dev Cert.Kernel.nD → PrngReg), Pre_Kernel_sends_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_3012_Kernel [hKernel : Cert.Kernel.Facts] [hPre_sends_3012_Kernel : Cert.Pre_sends_3012_Kernel.Facts] : Prop :=
  ∀ (m : (ℓ : Loc Cert.Kernel.nD Cert.Kernel.τ Cert.Kernel.sig) → Buf (Elt Bits) ℓ) (g : Dev Cert.Kernel.nD → PrngReg), Pre_Kernel_sends_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_3021_Kernel [hKernel : Cert.Kernel.Facts] [hPre_sends_3021_Kernel : Cert.Pre_sends_3021_Kernel.Facts] : Prop :=
  ∀ (m : (ℓ : Loc Cert.Kernel.nD Cert.Kernel.τ Cert.Kernel.sig) → Buf (Elt Bits) ℓ) (g : Dev Cert.Kernel.nD → PrngReg), Pre_Kernel_sends_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_3102_Kernel [hKernel : Cert.Kernel.Facts] [hPre_sends_3102_Kernel : Cert.Pre_sends_3102_Kernel.Facts] : Prop :=
  ∀ (m : (ℓ : Loc Cert.Kernel.nD Cert.Kernel.τ Cert.Kernel.sig) → Buf (Elt Bits) ℓ) (g : Dev Cert.Kernel.nD → PrngReg), Pre_Kernel_sends_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_3120_Kernel [hKernel : Cert.Kernel.Facts] [hPre_sends_3120_Kernel : Cert.Pre_sends_3120_Kernel.Facts] : Prop :=
  ∀ (m : (ℓ : Loc Cert.Kernel.nD Cert.Kernel.τ Cert.Kernel.sig) → Buf (Elt Bits) ℓ) (g : Dev Cert.Kernel.nD → PrngReg), Pre_Kernel_sends_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_3201_Kernel [hKernel : Cert.Kernel.Facts] [hPre_sends_3201_Kernel : Cert.Pre_sends_3201_Kernel.Facts] : Prop :=
  ∀ (m : (ℓ : Loc Cert.Kernel.nD Cert.Kernel.τ Cert.Kernel.sig) → Buf (Elt Bits) ℓ) (g : Dev Cert.Kernel.nD → PrngReg), Pre_Kernel_sends_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_sends_3210_Kernel [hKernel : Cert.Kernel.Facts] [hPre_sends_3210_Kernel : Cert.Pre_sends_3210_Kernel.Facts] : Prop :=
  ∀ (m : (ℓ : Loc Cert.Kernel.nD Cert.Kernel.τ Cert.Kernel.sig) → Buf (Elt Bits) ℓ) (g : Dev Cert.Kernel.nD → PrngReg), Pre_Kernel_sends_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_sends_0123_Kernel : Cert.Pre_sends_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_0132_Kernel [hKernelIdeal : Cert.KernelIdeal.Facts] [hPre_sends_0132_Kernel : Cert.Pre_sends_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_0213_Kernel [hKernelIdeal : Cert.KernelIdeal.Facts] [hPre_sends_0213_Kernel : Cert.Pre_sends_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_0231_Kernel [hKernelIdeal : Cert.KernelIdeal.Facts] [hPre_sends_0231_Kernel : Cert.Pre_sends_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_0312_Kernel [hKernelIdeal : Cert.KernelIdeal.Facts] [hPre_sends_0312_Kernel : Cert.Pre_sends_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_0321_Kernel [hKernelIdeal : Cert.KernelIdeal.Facts] [hPre_sends_0321_Kernel : Cert.Pre_sends_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_1023_Kernel [hKernelIdeal : Cert.KernelIdeal.Facts] [hPre_sends_1023_Kernel : Cert.Pre_sends_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_1032_Kernel [hKernelIdeal : Cert.KernelIdeal.Facts] [hPre_sends_1032_Kernel : Cert.Pre_sends_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_1203_Kernel [hKernelIdeal : Cert.KernelIdeal.Facts] [hPre_sends_1203_Kernel : Cert.Pre_sends_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_1230_Kernel [hKernelIdeal : Cert.KernelIdeal.Facts] [hPre_sends_1230_Kernel : Cert.Pre_sends_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_1302_Kernel [hKernelIdeal : Cert.KernelIdeal.Facts] [hPre_sends_1302_Kernel : Cert.Pre_sends_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_1320_Kernel [hKernelIdeal : Cert.KernelIdeal.Facts] [hPre_sends_1320_Kernel : Cert.Pre_sends_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_2013_Kernel [hKernelIdeal : Cert.KernelIdeal.Facts] [hPre_sends_2013_Kernel : Cert.Pre_sends_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_2031_Kernel [hKernelIdeal : Cert.KernelIdeal.Facts] [hPre_sends_2031_Kernel : Cert.Pre_sends_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_2103_Kernel [hKernelIdeal : Cert.KernelIdeal.Facts] [hPre_sends_2103_Kernel : Cert.Pre_sends_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_2130_Kernel [hKernelIdeal : Cert.KernelIdeal.Facts] [hPre_sends_2130_Kernel : Cert.Pre_sends_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_2301_Kernel [hKernelIdeal : Cert.KernelIdeal.Facts] [hPre_sends_2301_Kernel : Cert.Pre_sends_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_2310_Kernel [hKernelIdeal : Cert.KernelIdeal.Facts] [hPre_sends_2310_Kernel : Cert.Pre_sends_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_3012_Kernel [hKernelIdeal : Cert.KernelIdeal.Facts] [hPre_sends_3012_Kernel : Cert.Pre_sends_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_3021_Kernel [hKernelIdeal : Cert.KernelIdeal.Facts] [hPre_sends_3021_Kernel : Cert.Pre_sends_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_3102_Kernel [hKernelIdeal : Cert.KernelIdeal.Facts] [hPre_sends_3102_Kernel : Cert.Pre_sends_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_3120_Kernel [hKernelIdeal : Cert.KernelIdeal.Facts] [hPre_sends_3120_Kernel : Cert.Pre_sends_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_3201_Kernel [hKernelIdeal : Cert.KernelIdeal.Facts] [hPre_sends_3201_Kernel : Cert.Pre_sends_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sends_3210_Kernel [hKernelIdeal : Cert.KernelIdeal.Facts] [hPre_sends_3210_Kernel : Cert.Pre_sends_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sends_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_0123_ReferenceIdeal [hReferenceIdeal : Cert.ReferenceIdeal.Facts] [hPre_sends_0123_ReferenceIdeal : Cert.Pre_sends_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_0132_ReferenceIdeal [hReferenceIdeal : Cert.ReferenceIdeal.Facts] [hPre_sends_0132_ReferenceIdeal : Cert.Pre_sends_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_0213_ReferenceIdeal [hReferenceIdeal : Cert.ReferenceIdeal.Facts] [hPre_sends_0213_ReferenceIdeal : Cert.Pre_sends_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_0231_ReferenceIdeal [hReferenceIdeal : Cert.ReferenceIdeal.Facts] [hPre_sends_0231_ReferenceIdeal : Cert.Pre_sends_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_0312_ReferenceIdeal [hReferenceIdeal : Cert.ReferenceIdeal.Facts] [hPre_sends_0312_ReferenceIdeal : Cert.Pre_sends_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_0321_ReferenceIdeal [hReferenceIdeal : Cert.ReferenceIdeal.Facts] [hPre_sends_0321_ReferenceIdeal : Cert.Pre_sends_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_1023_ReferenceIdeal [hReferenceIdeal : Cert.ReferenceIdeal.Facts] [hPre_sends_1023_ReferenceIdeal : Cert.Pre_sends_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_1032_ReferenceIdeal [hReferenceIdeal : Cert.ReferenceIdeal.Facts] [hPre_sends_1032_ReferenceIdeal : Cert.Pre_sends_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_1203_ReferenceIdeal [hReferenceIdeal : Cert.ReferenceIdeal.Facts] [hPre_sends_1203_ReferenceIdeal : Cert.Pre_sends_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_1230_ReferenceIdeal [hReferenceIdeal : Cert.ReferenceIdeal.Facts] [hPre_sends_1230_ReferenceIdeal : Cert.Pre_sends_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_1302_ReferenceIdeal [hReferenceIdeal : Cert.ReferenceIdeal.Facts] [hPre_sends_1302_ReferenceIdeal : Cert.Pre_sends_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_1320_ReferenceIdeal [hReferenceIdeal : Cert.ReferenceIdeal.Facts] [hPre_sends_1320_ReferenceIdeal : Cert.Pre_sends_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_2013_ReferenceIdeal [hReferenceIdeal : Cert.ReferenceIdeal.Facts] [hPre_sends_2013_ReferenceIdeal : Cert.Pre_sends_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_2031_ReferenceIdeal [hReferenceIdeal : Cert.ReferenceIdeal.Facts] [hPre_sends_2031_ReferenceIdeal : Cert.Pre_sends_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_2103_ReferenceIdeal [hReferenceIdeal : Cert.ReferenceIdeal.Facts] [hPre_sends_2103_ReferenceIdeal : Cert.Pre_sends_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_2130_ReferenceIdeal [hReferenceIdeal : Cert.ReferenceIdeal.Facts] [hPre_sends_2130_ReferenceIdeal : Cert.Pre_sends_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_2301_ReferenceIdeal [hReferenceIdeal : Cert.ReferenceIdeal.Facts] [hPre_sends_2301_ReferenceIdeal : Cert.Pre_sends_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_2310_ReferenceIdeal [hReferenceIdeal : Cert.ReferenceIdeal.Facts] [hPre_sends_2310_ReferenceIdeal : Cert.Pre_sends_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_3012_ReferenceIdeal [hReferenceIdeal : Cert.ReferenceIdeal.Facts] [hPre_sends_3012_ReferenceIdeal : Cert.Pre_sends_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_3021_ReferenceIdeal [hReferenceIdeal : Cert.ReferenceIdeal.Facts] [hPre_sends_3021_ReferenceIdeal : Cert.Pre_sends_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_3102_ReferenceIdeal [hReferenceIdeal : Cert.ReferenceIdeal.Facts] [hPre_sends_3102_ReferenceIdeal : Cert.Pre_sends_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_3120_ReferenceIdeal [hReferenceIdeal : Cert.ReferenceIdeal.Facts] [hPre_sends_3120_ReferenceIdeal : Cert.Pre_sends_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_3201_ReferenceIdeal [hReferenceIdeal : Cert.ReferenceIdeal.Facts] [hPre_sends_3201_ReferenceIdeal : Cert.Pre_sends_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sends_3210_ReferenceIdeal [hReferenceIdeal : Cert.ReferenceIdeal.Facts] [hPre_sends_3210_ReferenceIdeal : Cert.Pre_sends_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sends_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sends_0123_Kernel : Cert.Pre_sends_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_0132_Kernel [hKernelIdeal : Cert.KernelIdeal.Facts] [hReferenceIdeal : Cert.ReferenceIdeal.Facts] [hPre_sends_0132_Kernel : Cert.Pre_sends_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_0132_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_0213_Kernel [hKernelIdeal : Cert.KernelIdeal.Facts] [hReferenceIdeal : Cert.ReferenceIdeal.Facts] [hPre_sends_0213_Kernel : Cert.Pre_sends_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_0213_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_0231_Kernel [hKernelIdeal : Cert.KernelIdeal.Facts] [hReferenceIdeal : Cert.ReferenceIdeal.Facts] [hPre_sends_0231_Kernel : Cert.Pre_sends_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_0231_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_0312_Kernel [hKernelIdeal : Cert.KernelIdeal.Facts] [hReferenceIdeal : Cert.ReferenceIdeal.Facts] [hPre_sends_0312_Kernel : Cert.Pre_sends_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_0312_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_0321_Kernel [hKernelIdeal : Cert.KernelIdeal.Facts] [hReferenceIdeal : Cert.ReferenceIdeal.Facts] [hPre_sends_0321_Kernel : Cert.Pre_sends_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_0321_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_1023_Kernel [hKernelIdeal : Cert.KernelIdeal.Facts] [hReferenceIdeal : Cert.ReferenceIdeal.Facts] [hPre_sends_1023_Kernel : Cert.Pre_sends_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_1023_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_1032_Kernel [hKernelIdeal : Cert.KernelIdeal.Facts] [hReferenceIdeal : Cert.ReferenceIdeal.Facts] [hPre_sends_1032_Kernel : Cert.Pre_sends_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_1032_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_1203_Kernel [hKernelIdeal : Cert.KernelIdeal.Facts] [hReferenceIdeal : Cert.ReferenceIdeal.Facts] [hPre_sends_1203_Kernel : Cert.Pre_sends_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_1203_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_1230_Kernel [hKernelIdeal : Cert.KernelIdeal.Facts] [hReferenceIdeal : Cert.ReferenceIdeal.Facts] [hPre_sends_1230_Kernel : Cert.Pre_sends_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_1230_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_1302_Kernel [hKernelIdeal : Cert.KernelIdeal.Facts] [hReferenceIdeal : Cert.ReferenceIdeal.Facts] [hPre_sends_1302_Kernel : Cert.Pre_sends_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_1302_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_1320_Kernel [hKernelIdeal : Cert.KernelIdeal.Facts] [hReferenceIdeal : Cert.ReferenceIdeal.Facts] [hPre_sends_1320_Kernel : Cert.Pre_sends_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_1320_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_2013_Kernel [hKernelIdeal : Cert.KernelIdeal.Facts] [hReferenceIdeal : Cert.ReferenceIdeal.Facts] [hPre_sends_2013_Kernel : Cert.Pre_sends_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_2013_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_2031_Kernel [hKernelIdeal : Cert.KernelIdeal.Facts] [hReferenceIdeal : Cert.ReferenceIdeal.Facts] [hPre_sends_2031_Kernel : Cert.Pre_sends_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_2031_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_2103_Kernel [hKernelIdeal : Cert.KernelIdeal.Facts] [hReferenceIdeal : Cert.ReferenceIdeal.Facts] [hPre_sends_2103_Kernel : Cert.Pre_sends_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_2103_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_2130_Kernel [hKernelIdeal : Cert.KernelIdeal.Facts] [hReferenceIdeal : Cert.ReferenceIdeal.Facts] [hPre_sends_2130_Kernel : Cert.Pre_sends_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_2130_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_2301_Kernel [hKernelIdeal : Cert.KernelIdeal.Facts] [hReferenceIdeal : Cert.ReferenceIdeal.Facts] [hPre_sends_2301_Kernel : Cert.Pre_sends_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_2301_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_2310_Kernel [hKernelIdeal : Cert.KernelIdeal.Facts] [hReferenceIdeal : Cert.ReferenceIdeal.Facts] [hPre_sends_2310_Kernel : Cert.Pre_sends_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_2310_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_3012_Kernel [hKernelIdeal : Cert.KernelIdeal.Facts] [hReferenceIdeal : Cert.ReferenceIdeal.Facts] [hPre_sends_3012_Kernel : Cert.Pre_sends_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_3012_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_3021_Kernel [hKernelIdeal : Cert.KernelIdeal.Facts] [hReferenceIdeal : Cert.ReferenceIdeal.Facts] [hPre_sends_3021_Kernel : Cert.Pre_sends_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_3021_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_3102_Kernel [hKernelIdeal : Cert.KernelIdeal.Facts] [hReferenceIdeal : Cert.ReferenceIdeal.Facts] [hPre_sends_3102_Kernel : Cert.Pre_sends_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_3102_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_3120_Kernel [hKernelIdeal : Cert.KernelIdeal.Facts] [hReferenceIdeal : Cert.ReferenceIdeal.Facts] [hPre_sends_3120_Kernel : Cert.Pre_sends_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_3120_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_3201_Kernel [hKernelIdeal : Cert.KernelIdeal.Facts] [hReferenceIdeal : Cert.ReferenceIdeal.Facts] [hPre_sends_3201_Kernel : Cert.Pre_sends_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_3201_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_sends_3210_Kernel [hKernelIdeal : Cert.KernelIdeal.Facts] [hReferenceIdeal : Cert.ReferenceIdeal.Facts] [hPre_sends_3210_Kernel : Cert.Pre_sends_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sends_3210_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sends_0123_Kernel : Cert.Pre_sends_0123_Kernel.Facts) (hPre_sends_0132_Kernel : Cert.Pre_sends_0132_Kernel.Facts) (hPre_sends_0213_Kernel : Cert.Pre_sends_0213_Kernel.Facts) (hPre_sends_0231_Kernel : Cert.Pre_sends_0231_Kernel.Facts) (hPre_sends_0312_Kernel : Cert.Pre_sends_0312_Kernel.Facts) (hPre_sends_0321_Kernel : Cert.Pre_sends_0321_Kernel.Facts) (hPre_sends_1023_Kernel : Cert.Pre_sends_1023_Kernel.Facts) (hPre_sends_1032_Kernel : Cert.Pre_sends_1032_Kernel.Facts) (hPre_sends_1203_Kernel : Cert.Pre_sends_1203_Kernel.Facts) (hPre_sends_1230_Kernel : Cert.Pre_sends_1230_Kernel.Facts) (hPre_sends_1302_Kernel : Cert.Pre_sends_1302_Kernel.Facts) (hPre_sends_1320_Kernel : Cert.Pre_sends_1320_Kernel.Facts) (hPre_sends_2013_Kernel : Cert.Pre_sends_2013_Kernel.Facts) (hPre_sends_2031_Kernel : Cert.Pre_sends_2031_Kernel.Facts) (hPre_sends_2103_Kernel : Cert.Pre_sends_2103_Kernel.Facts) (hPre_sends_2130_Kernel : Cert.Pre_sends_2130_Kernel.Facts) (hPre_sends_2301_Kernel : Cert.Pre_sends_2301_Kernel.Facts) (hPre_sends_2310_Kernel : Cert.Pre_sends_2310_Kernel.Facts) (hPre_sends_3012_Kernel : Cert.Pre_sends_3012_Kernel.Facts) (hPre_sends_3021_Kernel : Cert.Pre_sends_3021_Kernel.Facts) (hPre_sends_3102_Kernel : Cert.Pre_sends_3102_Kernel.Facts) (hPre_sends_3120_Kernel : Cert.Pre_sends_3120_Kernel.Facts) (hPre_sends_3201_Kernel : Cert.Pre_sends_3201_Kernel.Facts) (hPre_sends_3210_Kernel : Cert.Pre_sends_3210_Kernel.Facts) (hPre_sends_0123_ReferenceIdeal : Cert.Pre_sends_0123_ReferenceIdeal.Facts) (hPre_sends_0132_ReferenceIdeal : Cert.Pre_sends_0132_ReferenceIdeal.Facts) (hPre_sends_0213_ReferenceIdeal : Cert.Pre_sends_0213_ReferenceIdeal.Facts) (hPre_sends_0231_ReferenceIdeal : Cert.Pre_sends_0231_ReferenceIdeal.Facts) (hPre_sends_0312_ReferenceIdeal : Cert.Pre_sends_0312_ReferenceIdeal.Facts) (hPre_sends_0321_ReferenceIdeal : Cert.Pre_sends_0321_ReferenceIdeal.Facts) (hPre_sends_1023_ReferenceIdeal : Cert.Pre_sends_1023_ReferenceIdeal.Facts) (hPre_sends_1032_ReferenceIdeal : Cert.Pre_sends_1032_ReferenceIdeal.Facts) (hPre_sends_1203_ReferenceIdeal : Cert.Pre_sends_1203_ReferenceIdeal.Facts) (hPre_sends_1230_ReferenceIdeal : Cert.Pre_sends_1230_ReferenceIdeal.Facts) (hPre_sends_1302_ReferenceIdeal : Cert.Pre_sends_1302_ReferenceIdeal.Facts) (hPre_sends_1320_ReferenceIdeal : Cert.Pre_sends_1320_ReferenceIdeal.Facts) (hPre_sends_2013_ReferenceIdeal : Cert.Pre_sends_2013_ReferenceIdeal.Facts) (hPre_sends_2031_ReferenceIdeal : Cert.Pre_sends_2031_ReferenceIdeal.Facts) (hPre_sends_2103_ReferenceIdeal : Cert.Pre_sends_2103_ReferenceIdeal.Facts) (hPre_sends_2130_ReferenceIdeal : Cert.Pre_sends_2130_ReferenceIdeal.Facts) (hPre_sends_2301_ReferenceIdeal : Cert.Pre_sends_2301_ReferenceIdeal.Facts) (hPre_sends_2310_ReferenceIdeal : Cert.Pre_sends_2310_ReferenceIdeal.Facts) (hPre_sends_3012_ReferenceIdeal : Cert.Pre_sends_3012_ReferenceIdeal.Facts) (hPre_sends_3021_ReferenceIdeal : Cert.Pre_sends_3021_ReferenceIdeal.Facts) (hPre_sends_3102_ReferenceIdeal : Cert.Pre_sends_3102_ReferenceIdeal.Facts) (hPre_sends_3120_ReferenceIdeal : Cert.Pre_sends_3120_ReferenceIdeal.Facts) (hPre_sends_3201_ReferenceIdeal : Cert.Pre_sends_3201_ReferenceIdeal.Facts) (hPre_sends_3210_ReferenceIdeal : Cert.Pre_sends_3210_ReferenceIdeal.Facts),
    quiescent_Kernel (hKernel := hKernel) (hPre_sends_0123_Kernel := hPre_sends_0123_Kernel)
    ∧ quiescent_Kernel_pre_sends_0132_Kernel (hKernel := hKernel) (hPre_sends_0132_Kernel := hPre_sends_0132_Kernel)
    ∧ quiescent_Kernel_pre_sends_0213_Kernel (hKernel := hKernel) (hPre_sends_0213_Kernel := hPre_sends_0213_Kernel)
    ∧ quiescent_Kernel_pre_sends_0231_Kernel (hKernel := hKernel) (hPre_sends_0231_Kernel := hPre_sends_0231_Kernel)
    ∧ quiescent_Kernel_pre_sends_0312_Kernel (hKernel := hKernel) (hPre_sends_0312_Kernel := hPre_sends_0312_Kernel)
    ∧ quiescent_Kernel_pre_sends_0321_Kernel (hKernel := hKernel) (hPre_sends_0321_Kernel := hPre_sends_0321_Kernel)
    ∧ quiescent_Kernel_pre_sends_1023_Kernel (hKernel := hKernel) (hPre_sends_1023_Kernel := hPre_sends_1023_Kernel)
    ∧ quiescent_Kernel_pre_sends_1032_Kernel (hKernel := hKernel) (hPre_sends_1032_Kernel := hPre_sends_1032_Kernel)
    ∧ quiescent_Kernel_pre_sends_1203_Kernel (hKernel := hKernel) (hPre_sends_1203_Kernel := hPre_sends_1203_Kernel)
    ∧ quiescent_Kernel_pre_sends_1230_Kernel (hKernel := hKernel) (hPre_sends_1230_Kernel := hPre_sends_1230_Kernel)
    ∧ quiescent_Kernel_pre_sends_1302_Kernel (hKernel := hKernel) (hPre_sends_1302_Kernel := hPre_sends_1302_Kernel)
    ∧ quiescent_Kernel_pre_sends_1320_Kernel (hKernel := hKernel) (hPre_sends_1320_Kernel := hPre_sends_1320_Kernel)
    ∧ quiescent_Kernel_pre_sends_2013_Kernel (hKernel := hKernel) (hPre_sends_2013_Kernel := hPre_sends_2013_Kernel)
    ∧ quiescent_Kernel_pre_sends_2031_Kernel (hKernel := hKernel) (hPre_sends_2031_Kernel := hPre_sends_2031_Kernel)
    ∧ quiescent_Kernel_pre_sends_2103_Kernel (hKernel := hKernel) (hPre_sends_2103_Kernel := hPre_sends_2103_Kernel)
    ∧ quiescent_Kernel_pre_sends_2130_Kernel (hKernel := hKernel) (hPre_sends_2130_Kernel := hPre_sends_2130_Kernel)
    ∧ quiescent_Kernel_pre_sends_2301_Kernel (hKernel := hKernel) (hPre_sends_2301_Kernel := hPre_sends_2301_Kernel)
    ∧ quiescent_Kernel_pre_sends_2310_Kernel (hKernel := hKernel) (hPre_sends_2310_Kernel := hPre_sends_2310_Kernel)
    ∧ quiescent_Kernel_pre_sends_3012_Kernel (hKernel := hKernel) (hPre_sends_3012_Kernel := hPre_sends_3012_Kernel)
    ∧ quiescent_Kernel_pre_sends_3021_Kernel (hKernel := hKernel) (hPre_sends_3021_Kernel := hPre_sends_3021_Kernel)
    ∧ quiescent_Kernel_pre_sends_3102_Kernel (hKernel := hKernel) (hPre_sends_3102_Kernel := hPre_sends_3102_Kernel)
    ∧ quiescent_Kernel_pre_sends_3120_Kernel (hKernel := hKernel) (hPre_sends_3120_Kernel := hPre_sends_3120_Kernel)
    ∧ quiescent_Kernel_pre_sends_3201_Kernel (hKernel := hKernel) (hPre_sends_3201_Kernel := hPre_sends_3201_Kernel)
    ∧ quiescent_Kernel_pre_sends_3210_Kernel (hKernel := hKernel) (hPre_sends_3210_Kernel := hPre_sends_3210_Kernel)
    ∧ quiescent_KernelIdeal (hKernelIdeal := hKernelIdeal) (hPre_sends_0123_Kernel := hPre_sends_0123_Kernel)
    ∧ quiescent_KernelIdeal_pre_sends_0132_Kernel (hKernelIdeal := hKernelIdeal) (hPre_sends_0132_Kernel := hPre_sends_0132_Kernel)
    ∧ quiescent_KernelIdeal_pre_sends_0213_Kernel (hKernelIdeal := hKernelIdeal) (hPre_sends_0213_Kernel := hPre_sends_0213_Kernel)
    ∧ quiescent_KernelIdeal_pre_sends_0231_Kernel (hKernelIdeal := hKernelIdeal) (hPre_sends_0231_Kernel := hPre_sends_0231_Kernel)
    ∧ quiescent_KernelIdeal_pre_sends_0312_Kernel (hKernelIdeal := hKernelIdeal) (hPre_sends_0312_Kernel := hPre_sends_0312_Kernel)
    ∧ quiescent_KernelIdeal_pre_sends_0321_Kernel (hKernelIdeal := hKernelIdeal) (hPre_sends_0321_Kernel := hPre_sends_0321_Kernel)
    ∧ quiescent_KernelIdeal_pre_sends_1023_Kernel (hKernelIdeal := hKernelIdeal) (hPre_sends_1023_Kernel := hPre_sends_1023_Kernel)
    ∧ quiescent_KernelIdeal_pre_sends_1032_Kernel (hKernelIdeal := hKernelIdeal) (hPre_sends_1032_Kernel := hPre_sends_1032_Kernel)
    ∧ quiescent_KernelIdeal_pre_sends_1203_Kernel (hKernelIdeal := hKernelIdeal) (hPre_sends_1203_Kernel := hPre_sends_1203_Kernel)
    ∧ quiescent_KernelIdeal_pre_sends_1230_Kernel (hKernelIdeal := hKernelIdeal) (hPre_sends_1230_Kernel := hPre_sends_1230_Kernel)
    ∧ quiescent_KernelIdeal_pre_sends_1302_Kernel (hKernelIdeal := hKernelIdeal) (hPre_sends_1302_Kernel := hPre_sends_1302_Kernel)
    ∧ quiescent_KernelIdeal_pre_sends_1320_Kernel (hKernelIdeal := hKernelIdeal) (hPre_sends_1320_Kernel := hPre_sends_1320_Kernel)
    ∧ quiescent_KernelIdeal_pre_sends_2013_Kernel (hKernelIdeal := hKernelIdeal) (hPre_sends_2013_Kernel := hPre_sends_2013_Kernel)
    ∧ quiescent_KernelIdeal_pre_sends_2031_Kernel (hKernelIdeal := hKernelIdeal) (hPre_sends_2031_Kernel := hPre_sends_2031_Kernel)
    ∧ quiescent_KernelIdeal_pre_sends_2103_Kernel (hKernelIdeal := hKernelIdeal) (hPre_sends_2103_Kernel := hPre_sends_2103_Kernel)
    ∧ quiescent_KernelIdeal_pre_sends_2130_Kernel (hKernelIdeal := hKernelIdeal) (hPre_sends_2130_Kernel := hPre_sends_2130_Kernel)
    ∧ quiescent_KernelIdeal_pre_sends_2301_Kernel (hKernelIdeal := hKernelIdeal) (hPre_sends_2301_Kernel := hPre_sends_2301_Kernel)
    ∧ quiescent_KernelIdeal_pre_sends_2310_Kernel (hKernelIdeal := hKernelIdeal) (hPre_sends_2310_Kernel := hPre_sends_2310_Kernel)
    ∧ quiescent_KernelIdeal_pre_sends_3012_Kernel (hKernelIdeal := hKernelIdeal) (hPre_sends_3012_Kernel := hPre_sends_3012_Kernel)
    ∧ quiescent_KernelIdeal_pre_sends_3021_Kernel (hKernelIdeal := hKernelIdeal) (hPre_sends_3021_Kernel := hPre_sends_3021_Kernel)
    ∧ quiescent_KernelIdeal_pre_sends_3102_Kernel (hKernelIdeal := hKernelIdeal) (hPre_sends_3102_Kernel := hPre_sends_3102_Kernel)
    ∧ quiescent_KernelIdeal_pre_sends_3120_Kernel (hKernelIdeal := hKernelIdeal) (hPre_sends_3120_Kernel := hPre_sends_3120_Kernel)
    ∧ quiescent_KernelIdeal_pre_sends_3201_Kernel (hKernelIdeal := hKernelIdeal) (hPre_sends_3201_Kernel := hPre_sends_3201_Kernel)
    ∧ quiescent_KernelIdeal_pre_sends_3210_Kernel (hKernelIdeal := hKernelIdeal) (hPre_sends_3210_Kernel := hPre_sends_3210_Kernel)
    ∧ quiescent_ReferenceIdeal (hReferenceIdeal := hReferenceIdeal)
    ∧ quiescent_ReferenceIdeal_pre_sends_0123_ReferenceIdeal (hReferenceIdeal := hReferenceIdeal) (hPre_sends_0123_ReferenceIdeal := hPre_sends_0123_ReferenceIdeal)
    ∧ quiescent_ReferenceIdeal_pre_sends_0132_ReferenceIdeal (hReferenceIdeal := hReferenceIdeal) (hPre_sends_0132_ReferenceIdeal := hPre_sends_0132_ReferenceIdeal)
    ∧ quiescent_ReferenceIdeal_pre_sends_0213_ReferenceIdeal (hReferenceIdeal := hReferenceIdeal) (hPre_sends_0213_ReferenceIdeal := hPre_sends_0213_ReferenceIdeal)
    ∧ quiescent_ReferenceIdeal_pre_sends_0231_ReferenceIdeal (hReferenceIdeal := hReferenceIdeal) (hPre_sends_0231_ReferenceIdeal := hPre_sends_0231_ReferenceIdeal)
    ∧ quiescent_ReferenceIdeal_pre_sends_0312_ReferenceIdeal (hReferenceIdeal := hReferenceIdeal) (hPre_sends_0312_ReferenceIdeal := hPre_sends_0312_ReferenceIdeal)
    ∧ quiescent_ReferenceIdeal_pre_sends_0321_ReferenceIdeal (hReferenceIdeal := hReferenceIdeal) (hPre_sends_0321_ReferenceIdeal := hPre_sends_0321_ReferenceIdeal)
    ∧ quiescent_ReferenceIdeal_pre_sends_1023_ReferenceIdeal (hReferenceIdeal := hReferenceIdeal) (hPre_sends_1023_ReferenceIdeal := hPre_sends_1023_ReferenceIdeal)
    ∧ quiescent_ReferenceIdeal_pre_sends_1032_ReferenceIdeal (hReferenceIdeal := hReferenceIdeal) (hPre_sends_1032_ReferenceIdeal := hPre_sends_1032_ReferenceIdeal)
    ∧ quiescent_ReferenceIdeal_pre_sends_1203_ReferenceIdeal (hReferenceIdeal := hReferenceIdeal) (hPre_sends_1203_ReferenceIdeal := hPre_sends_1203_ReferenceIdeal)
    ∧ quiescent_ReferenceIdeal_pre_sends_1230_ReferenceIdeal (hReferenceIdeal := hReferenceIdeal) (hPre_sends_1230_ReferenceIdeal := hPre_sends_1230_ReferenceIdeal)
    ∧ quiescent_ReferenceIdeal_pre_sends_1302_ReferenceIdeal (hReferenceIdeal := hReferenceIdeal) (hPre_sends_1302_ReferenceIdeal := hPre_sends_1302_ReferenceIdeal)
    ∧ quiescent_ReferenceIdeal_pre_sends_1320_ReferenceIdeal (hReferenceIdeal := hReferenceIdeal) (hPre_sends_1320_ReferenceIdeal := hPre_sends_1320_ReferenceIdeal)
    ∧ quiescent_ReferenceIdeal_pre_sends_2013_ReferenceIdeal (hReferenceIdeal := hReferenceIdeal) (hPre_sends_2013_ReferenceIdeal := hPre_sends_2013_ReferenceIdeal)
    ∧ quiescent_ReferenceIdeal_pre_sends_2031_ReferenceIdeal (hReferenceIdeal := hReferenceIdeal) (hPre_sends_2031_ReferenceIdeal := hPre_sends_2031_ReferenceIdeal)
    ∧ quiescent_ReferenceIdeal_pre_sends_2103_ReferenceIdeal (hReferenceIdeal := hReferenceIdeal) (hPre_sends_2103_ReferenceIdeal := hPre_sends_2103_ReferenceIdeal)
    ∧ quiescent_ReferenceIdeal_pre_sends_2130_ReferenceIdeal (hReferenceIdeal := hReferenceIdeal) (hPre_sends_2130_ReferenceIdeal := hPre_sends_2130_ReferenceIdeal)
    ∧ quiescent_ReferenceIdeal_pre_sends_2301_ReferenceIdeal (hReferenceIdeal := hReferenceIdeal) (hPre_sends_2301_ReferenceIdeal := hPre_sends_2301_ReferenceIdeal)
    ∧ quiescent_ReferenceIdeal_pre_sends_2310_ReferenceIdeal (hReferenceIdeal := hReferenceIdeal) (hPre_sends_2310_ReferenceIdeal := hPre_sends_2310_ReferenceIdeal)
    ∧ quiescent_ReferenceIdeal_pre_sends_3012_ReferenceIdeal (hReferenceIdeal := hReferenceIdeal) (hPre_sends_3012_ReferenceIdeal := hPre_sends_3012_ReferenceIdeal)
    ∧ quiescent_ReferenceIdeal_pre_sends_3021_ReferenceIdeal (hReferenceIdeal := hReferenceIdeal) (hPre_sends_3021_ReferenceIdeal := hPre_sends_3021_ReferenceIdeal)
    ∧ quiescent_ReferenceIdeal_pre_sends_3102_ReferenceIdeal (hReferenceIdeal := hReferenceIdeal) (hPre_sends_3102_ReferenceIdeal := hPre_sends_3102_ReferenceIdeal)
    ∧ quiescent_ReferenceIdeal_pre_sends_3120_ReferenceIdeal (hReferenceIdeal := hReferenceIdeal) (hPre_sends_3120_ReferenceIdeal := hPre_sends_3120_ReferenceIdeal)
    ∧ quiescent_ReferenceIdeal_pre_sends_3201_ReferenceIdeal (hReferenceIdeal := hReferenceIdeal) (hPre_sends_3201_ReferenceIdeal := hPre_sends_3201_ReferenceIdeal)
    ∧ quiescent_ReferenceIdeal_pre_sends_3210_ReferenceIdeal (hReferenceIdeal := hReferenceIdeal) (hPre_sends_3210_ReferenceIdeal := hPre_sends_3210_ReferenceIdeal)
    ∧ preserves_Kernel_KernelIdeal
    ∧ algebraic_KernelIdeal_ReferenceIdeal (hKernelIdeal := hKernelIdeal) (hReferenceIdeal := hReferenceIdeal) (hPre_sends_0123_Kernel := hPre_sends_0123_Kernel)
    ∧ algebraic_KernelIdeal_ReferenceIdeal_pre_sends_0132_Kernel (hKernelIdeal := hKernelIdeal) (hReferenceIdeal := hReferenceIdeal) (hPre_sends_0132_Kernel := hPre_sends_0132_Kernel)
    ∧ algebraic_KernelIdeal_ReferenceIdeal_pre_sends_0213_Kernel (hKernelIdeal := hKernelIdeal) (hReferenceIdeal := hReferenceIdeal) (hPre_sends_0213_Kernel := hPre_sends_0213_Kernel)
    ∧ algebraic_KernelIdeal_ReferenceIdeal_pre_sends_0231_Kernel (hKernelIdeal := hKernelIdeal) (hReferenceIdeal := hReferenceIdeal) (hPre_sends_0231_Kernel := hPre_sends_0231_Kernel)
    ∧ algebraic_KernelIdeal_ReferenceIdeal_pre_sends_0312_Kernel (hKernelIdeal := hKernelIdeal) (hReferenceIdeal := hReferenceIdeal) (hPre_sends_0312_Kernel := hPre_sends_0312_Kernel)
    ∧ algebraic_KernelIdeal_ReferenceIdeal_pre_sends_0321_Kernel (hKernelIdeal := hKernelIdeal) (hReferenceIdeal := hReferenceIdeal) (hPre_sends_0321_Kernel := hPre_sends_0321_Kernel)
    ∧ algebraic_KernelIdeal_ReferenceIdeal_pre_sends_1023_Kernel (hKernelIdeal := hKernelIdeal) (hReferenceIdeal := hReferenceIdeal) (hPre_sends_1023_Kernel := hPre_sends_1023_Kernel)
    ∧ algebraic_KernelIdeal_ReferenceIdeal_pre_sends_1032_Kernel (hKernelIdeal := hKernelIdeal) (hReferenceIdeal := hReferenceIdeal) (hPre_sends_1032_Kernel := hPre_sends_1032_Kernel)
    ∧ algebraic_KernelIdeal_ReferenceIdeal_pre_sends_1203_Kernel (hKernelIdeal := hKernelIdeal) (hReferenceIdeal := hReferenceIdeal) (hPre_sends_1203_Kernel := hPre_sends_1203_Kernel)
    ∧ algebraic_KernelIdeal_ReferenceIdeal_pre_sends_1230_Kernel (hKernelIdeal := hKernelIdeal) (hReferenceIdeal := hReferenceIdeal) (hPre_sends_1230_Kernel := hPre_sends_1230_Kernel)
    ∧ algebraic_KernelIdeal_ReferenceIdeal_pre_sends_1302_Kernel (hKernelIdeal := hKernelIdeal) (hReferenceIdeal := hReferenceIdeal) (hPre_sends_1302_Kernel := hPre_sends_1302_Kernel)
    ∧ algebraic_KernelIdeal_ReferenceIdeal_pre_sends_1320_Kernel (hKernelIdeal := hKernelIdeal) (hReferenceIdeal := hReferenceIdeal) (hPre_sends_1320_Kernel := hPre_sends_1320_Kernel)
    ∧ algebraic_KernelIdeal_ReferenceIdeal_pre_sends_2013_Kernel (hKernelIdeal := hKernelIdeal) (hReferenceIdeal := hReferenceIdeal) (hPre_sends_2013_Kernel := hPre_sends_2013_Kernel)
    ∧ algebraic_KernelIdeal_ReferenceIdeal_pre_sends_2031_Kernel (hKernelIdeal := hKernelIdeal) (hReferenceIdeal := hReferenceIdeal) (hPre_sends_2031_Kernel := hPre_sends_2031_Kernel)
    ∧ algebraic_KernelIdeal_ReferenceIdeal_pre_sends_2103_Kernel (hKernelIdeal := hKernelIdeal) (hReferenceIdeal := hReferenceIdeal) (hPre_sends_2103_Kernel := hPre_sends_2103_Kernel)
    ∧ algebraic_KernelIdeal_ReferenceIdeal_pre_sends_2130_Kernel (hKernelIdeal := hKernelIdeal) (hReferenceIdeal := hReferenceIdeal) (hPre_sends_2130_Kernel := hPre_sends_2130_Kernel)
    ∧ algebraic_KernelIdeal_ReferenceIdeal_pre_sends_2301_Kernel (hKernelIdeal := hKernelIdeal) (hReferenceIdeal := hReferenceIdeal) (hPre_sends_2301_Kernel := hPre_sends_2301_Kernel)
    ∧ algebraic_KernelIdeal_ReferenceIdeal_pre_sends_2310_Kernel (hKernelIdeal := hKernelIdeal) (hReferenceIdeal := hReferenceIdeal) (hPre_sends_2310_Kernel := hPre_sends_2310_Kernel)
    ∧ algebraic_KernelIdeal_ReferenceIdeal_pre_sends_3012_Kernel (hKernelIdeal := hKernelIdeal) (hReferenceIdeal := hReferenceIdeal) (hPre_sends_3012_Kernel := hPre_sends_3012_Kernel)
    ∧ algebraic_KernelIdeal_ReferenceIdeal_pre_sends_3021_Kernel (hKernelIdeal := hKernelIdeal) (hReferenceIdeal := hReferenceIdeal) (hPre_sends_3021_Kernel := hPre_sends_3021_Kernel)
    ∧ algebraic_KernelIdeal_ReferenceIdeal_pre_sends_3102_Kernel (hKernelIdeal := hKernelIdeal) (hReferenceIdeal := hReferenceIdeal) (hPre_sends_3102_Kernel := hPre_sends_3102_Kernel)
    ∧ algebraic_KernelIdeal_ReferenceIdeal_pre_sends_3120_Kernel (hKernelIdeal := hKernelIdeal) (hReferenceIdeal := hReferenceIdeal) (hPre_sends_3120_Kernel := hPre_sends_3120_Kernel)
    ∧ algebraic_KernelIdeal_ReferenceIdeal_pre_sends_3201_Kernel (hKernelIdeal := hKernelIdeal) (hReferenceIdeal := hReferenceIdeal) (hPre_sends_3201_Kernel := hPre_sends_3201_Kernel)
    ∧ algebraic_KernelIdeal_ReferenceIdeal_pre_sends_3210_Kernel (hKernelIdeal := hKernelIdeal) (hReferenceIdeal := hReferenceIdeal) (hPre_sends_3210_Kernel := hPre_sends_3210_Kernel)
-- ==== Pre_sends_0123_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_0123_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_0132_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_0132_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_0213_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_0213_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_0231_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_0231_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_0312_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_0312_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_0321_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_0321_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_1023_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_1023_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_1032_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_1032_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_1203_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_1203_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_1230_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_1230_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_1302_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_1302_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_1320_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_1320_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_2013_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_2013_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_2031_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_2031_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_2103_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_2103_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_2130_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_2130_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_2301_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_2301_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_2310_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_2310_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_3012_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_3012_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_3021_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_3021_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_3102_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_3102_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_3120_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_3120_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_3201_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_3201_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_3210_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_sends_3210_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x512x512 : Shape := ⟨3, ![1, 512, 512]⟩
abbrev S4 : Shape := ⟨1, ![4]⟩
abbrev S512x512 : Shape := ⟨2, ![512, 512]⟩
abbrev S1x512 : Shape := ⟨2, ![1, 512]⟩
abbrev S_ : Shape := ⟨0, ![]⟩
abbrev S1 : Shape := ⟨1, ![1]⟩
abbrev S512 : Shape := ⟨1, ![512]⟩
abbrev S1x1 : Shape := ⟨2, ![1, 1]⟩
abbrev S1x128x512 : Shape := ⟨3, ![1, 128, 512]⟩
abbrev S128x512 : Shape := ⟨2, ![128, 512]⟩

abbrev nBuf : Space → Nat
  | .hbm => 3
  | .vmem => 6
  | .smem => 1
  | _ => 0

abbrev bufTy : (tb : Table) → Fin (tcTables nBuf tb) → BufTy
  | .hbm, ⟨0, _⟩ => ⟨S1x512x512, .bf16⟩
  | .hbm, ⟨1, _⟩ => ⟨S4, .i32⟩
  | .hbm, ⟨2, _⟩ => ⟨S1x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S512x512, .i8⟩
  | .local _ .vmem, ⟨3, _⟩ => ⟨S512x512, .i8⟩
  | .local _ .vmem, ⟨4, _⟩ => ⟨S1x512, .f32⟩
  | .local _ .vmem, ⟨5, _⟩ => ⟨S1x512, .f32⟩
  | .local _ .smem, ⟨0, _⟩ => ⟨S4, .i32⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_dev1 (d0 : Dev nD) (v11 : BitVec 32) (v14 : BitVec 32) (v17 : BitVec 32) (v20 : BitVec 32) : Nat :=
  let c0_i32_7 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_6 : BitVec 32 := 8#32
  let v24 : BitVec 32 := Scalar.muli v2 c8_i32_6
  let v25 : BitVec 32 := Scalar.addi c0_i32_7 v24
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v26 : BitVec 32 := Scalar.muli v5 c4_i32_8
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v21 : BitVec 1 := Scalar.cmpi .eq v20 v8
  let c3_i32 : BitVec 32 := 3#32
  let v18 : BitVec 1 := Scalar.cmpi .eq v17 v8
  let c2_i32_4 : BitVec 32 := 2#32
  let v15 : BitVec 1 := Scalar.cmpi .eq v14 v8
  let c1_i32_3 : BitVec 32 := 1#32
  let v12 : BitVec 1 := Scalar.cmpi .eq v11 v8
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c1_i32_9 : BitVec 32 := 1#32
  let v28 : BitVec 32 := Scalar.muli v22 c1_i32_9
  let v29 : BitVec 32 := Scalar.addi v27 v28
  v29.toNat

def k0_chk1 (d0 : Dev nD) (v11 : BitVec 32) (v14 : BitVec 32) (v17 : BitVec 32) (v20 : BitVec 32) : Prop :=
  ((k0_dev1 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1

def k0_dev2 (d0 : Dev nD) (v10 : BitVec 32) : Nat :=
  let c0_i32_26 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_25 : BitVec 32 := 8#32
  let v59 : BitVec 32 := Scalar.muli v2 c8_i32_25
  let v60 : BitVec 32 := Scalar.addi c0_i32_26 v59
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_27 : BitVec 32 := 4#32
  let v61 : BitVec 32 := Scalar.muli v5 c4_i32_27
  let v62 : BitVec 32 := Scalar.addi v60 v61
  let c1_i32_28 : BitVec 32 := 1#32
  let v63 : BitVec 32 := Scalar.muli v10 c1_i32_28
  let v64 : BitVec 32 := Scalar.addi v62 v63
  v64.toNat

def k0_dev3 (d0 : Dev nD) (v10 : BitVec 32) : Nat :=
  let c0_i32_32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_31 : BitVec 32 := 8#32
  let v65 : BitVec 32 := Scalar.muli v2 c8_i32_31
  let v66 : BitVec 32 := Scalar.addi c0_i32_32 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v67 : BitVec 32 := Scalar.muli v5 c4_i32_33
  let v68 : BitVec 32 := Scalar.addi v66 v67
  let c1_i32_34 : BitVec 32 := 1#32
  let v69 : BitVec 32 := Scalar.muli v10 c1_i32_34
  let v70 : BitVec 32 := Scalar.addi v68 v69
  v70.toNat
def k0_dev4 (d0 : Dev nD) (v10 : BitVec 32) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v86 : BitVec 32 := Scalar.muli v2 c8_i32_45
  let v87 : BitVec 32 := Scalar.addi c0_i32_46 v86
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v88 : BitVec 32 := Scalar.muli v5 c4_i32_47
  let v89 : BitVec 32 := Scalar.addi v87 v88
  let c1_i32_48 : BitVec 32 := 1#32
  let v90 : BitVec 32 := Scalar.muli v10 c1_i32_48
  let v91 : BitVec 32 := Scalar.addi v89 v90
  v91.toNat
def k0_dev5 (d0 : Dev nD) (v10 : BitVec 32) : Nat :=
  let c0_i32_59 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_58 : BitVec 32 := 8#32
  let v107 : BitVec 32 := Scalar.muli v2 c8_i32_58
  let v108 : BitVec 32 := Scalar.addi c0_i32_59 v107
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_60 : BitVec 32 := 4#32
  let v109 : BitVec 32 := Scalar.muli v5 c4_i32_60
  let v110 : BitVec 32 := Scalar.addi v108 v109
  let c1_i32_61 : BitVec 32 := 1#32
  let v111 : BitVec 32 := Scalar.muli v10 c1_i32_61
  let v112 : BitVec 32 := Scalar.addi v110 v111
  v112.toNat
def k0_dev6 (d0 : Dev nD) (v10 : BitVec 32) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v128 : BitVec 32 := Scalar.muli v2 c8_i32_71
  let v129 : BitVec 32 := Scalar.addi c0_i32_72 v128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_73 : BitVec 32 := 4#32
  let v130 : BitVec 32 := Scalar.muli v5 c4_i32_73
  let v131 : BitVec 32 := Scalar.addi v129 v130
  let c1_i32_74 : BitVec 32 := 1#32
  let v132 : BitVec 32 := Scalar.muli v10 c1_i32_74
  let v133 : BitVec 32 := Scalar.addi v131 v132
  v133.toNat

def k0_chk2 (d0 : Dev nD) (v10 : BitVec 32) : Prop :=
  ((k0_dev2 d0 v10) < nD) ∧
  ((k0_dev3 d0 v10) < nD) ∧
  ((k0_dev4 d0 v10) < nD) ∧
  ((k0_dev5 d0 v10) < nD) ∧
  ((k0_dev6 d0 v10) < nD)
theorem k0_dev2_lt : ∀ (d0 : Dev nD) (v10 : BitVec 32) (k0_hw2 : k0_chk2 d0 v10), (k0_dev2 d0 v10) < nD := fun d0 v10 k0_hw2 => k0_hw2.1
theorem k0_dev3_lt : ∀ (d0 : Dev nD) (v10 : BitVec 32) (k0_hw2 : k0_chk2 d0 v10), (k0_dev3 d0 v10) < nD := fun d0 v10 k0_hw2 => k0_hw2.2.1
theorem k0_dev4_lt : ∀ (d0 : Dev nD) (v10 : BitVec 32) (k0_hw2 : k0_chk2 d0 v10), (k0_dev4 d0 v10) < nD := fun d0 v10 k0_hw2 => k0_hw2.2.2.1
theorem k0_dev5_lt : ∀ (d0 : Dev nD) (v10 : BitVec 32) (k0_hw2 : k0_chk2 d0 v10), (k0_dev5 d0 v10) < nD := fun d0 v10 k0_hw2 => k0_hw2.2.2.2.1
theorem k0_dev6_lt : ∀ (d0 : Dev nD) (v10 : BitVec 32) (k0_hw2 : k0_chk2 d0 v10), (k0_dev6 d0 v10) < nD := fun d0 v10 k0_hw2 => k0_hw2.2.2.2.2

abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x512x512 : Shape := ⟨3, ![4, 512, 512]⟩
abbrev S4 : Shape := ⟨1, ![4]⟩
abbrev S_ : Shape := ⟨0, ![]⟩
abbrev S4x1x1 : Shape := ⟨3, ![4, 1, 1]⟩
abbrev S4x1 : Shape := ⟨2, ![4, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x512x512, .bf16⟩
  | .hbm, ⟨1, _⟩ => ⟨S4, .i32⟩
  | .hbm, ⟨2, _⟩ => ⟨S4x512x512, .bf16⟩
  | .hbm, ⟨3, _⟩ => ⟨S_, .bf16⟩
  | .hbm, ⟨4, _⟩ => ⟨S4, .bf16⟩
  | .hbm, ⟨5, _⟩ => ⟨S4x1x1, .bf16⟩
  | .hbm, ⟨6, _⟩ => ⟨S_, .bf16⟩
  | .hbm, ⟨7, _⟩ => ⟨S4x1x1, .bf16⟩
  | .hbm, ⟨8, _⟩ => ⟨S4x1x1, .bf16⟩
  | .hbm, ⟨9, _⟩ => ⟨S_, .bf16⟩
  | .hbm, ⟨10, _⟩ => ⟨S4x1x1, .bf16⟩
  | .hbm, ⟨11, _⟩ => ⟨S4x1x1, .bf16⟩
  | .hbm, ⟨12, _⟩ => ⟨S4x512x512, .bf16⟩
  | .hbm, ⟨13, _⟩ => ⟨S4x512x512, .bf16⟩
  | .hbm, ⟨14, _⟩ => ⟨S4x512x512, .bf16⟩
  | .hbm, ⟨15, _⟩ => ⟨S_, .f32⟩
  | .hbm, ⟨16, _⟩ => ⟨S_, .f32⟩
  | .hbm, ⟨17, _⟩ => ⟨S_, .bf16⟩
  | .hbm, ⟨18, _⟩ => ⟨S4x512x512, .bf16⟩
  | .hbm, ⟨19, _⟩ => ⟨S4x512x512, .bf16⟩
  | .hbm, ⟨20, _⟩ => ⟨S_, .bf16⟩
  | .hbm, ⟨21, _⟩ => ⟨S4x512x512, .bf16⟩
  | .hbm, ⟨22, _⟩ => ⟨S4x512x512, .bf16⟩
  | .hbm, ⟨23, _⟩ => ⟨S4x512x512, .bf16⟩
  | .hbm, ⟨24, _⟩ => ⟨S4x512x512, .bf16⟩
  | .hbm, ⟨25, _⟩ => ⟨S4, .i32⟩
  | .hbm, ⟨26, _⟩ => ⟨S4, .i32⟩
  | .hbm, ⟨27, _⟩ => ⟨S4, .i32⟩
  | .hbm, ⟨28, _⟩ => ⟨S_, .i32⟩
  | .hbm, ⟨29, _⟩ => ⟨S4, .i32⟩
  | .hbm, ⟨30, _⟩ => ⟨S4, .i1⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S4, .i32⟩
  | .hbm, ⟨35, _⟩ => ⟨S4x1, .i32⟩
  | .hbm, ⟨36, _⟩ => ⟨S4x512x512, .bf16⟩
  | _, _ => ⟨S4x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call2_v0 : Ref sig .tc := ⟨.hbm, 25, rfl⟩
abbrev main_call2_v1_0 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Proof.Memory.lean ====
/-
# Buffers in four bands

The kernel handles its 512×512 code buffers and its result block in four bands of 128 rows. This file names the
buffers and their bands, shows that a buffer is the four bands side by side, and states the loads and stores
at the level of "device `c` owns these elements and reads `X` there".
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and this kernel's, each with one duty per cell -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The buffers -/

/-- The staged input block, table and result block; the codes sent and received; the scale rows sent and received. -/
abbrev xM : Memref sig .tc .vmem S1x512x512 .bf16 := Memref.whole cc0_stg0_0
abbrev tM : Memref sig .tc .smem S4 .i32 := Memref.whole cc0_stg1_0
abbrev oM : Memref sig .tc .vmem S1x512x512 .bf16 := Memref.whole cc0_stg2_0
abbrev qs : Memref sig .tc .vmem S512x512 .i8 := Memref.whole cc0_scratch0
abbrev qr : Memref sig .tc .vmem S512x512 .i8 := Memref.whole cc0_scratch1
abbrev ss : Memref sig .tc .vmem S1x512 .f32 := Memref.whole cc0_scratch2
abbrev sr : Memref sig .tc .vmem S1x512 .f32 := Memref.whole cc0_scratch3

/-! ## The bands -/

theorem band_inb (k : Fin 4) : ∀ a, (![128 * k.val, 0] : Fin 2 → Nat) a + S128x512.size a ≤ S512x512.size a := by
  revert k; decide
theorem slab_inb (k : Fin 4) : ∀ a, (![0, 128 * k.val, 0] : Fin 3 → Nat) a + S1x128x512.size a ≤ S1x512x512.size a := by
  revert k; decide

/-- Rows `128k … 128k+127` of a 512×512 buffer, -/
abbrev band (k : Fin 4) : Rect S512x512 := Rect.unit (s := S512x512) ![128 * k.val, 0] S128x512.size (band_inb k)
/-- and of a 1×512×512 one. -/
abbrev slab (k : Fin 4) : Rect S1x512x512 := Rect.unit (s := S1x512x512) ![0, 128 * k.val, 0] S1x128x512.size (slab_inb k)

abbrev qsk (k : Fin 4) : Memref sig .tc .vmem S128x512 .i8 := qs.slice (band k) (fun _ => rfl)
abbrev qrk (k : Fin 4) : Memref sig .tc .vmem S128x512 .i8 := qr.slice (band k) (fun _ => rfl)
abbrev ok (k : Fin 4) : Memref sig .tc .vmem S1x128x512 .bf16 := oM.slice (slab k) (fun _ => rfl)

theorem mem_band {k : Fin 4} {i : S512x512.Idx} : i ∈ (band k).set ↔ 128 * k.val ≤ (i 0).val ∧ (i 0).val < 128 * k.val + 128 := by
  rw [Rect.mem_set_unit]
  constructor
  · intro h; have := h 0; exact this
  · intro h a
    fin_cases a
    · exact h
    · have : (i 1).val < 512 := (i 1).isLt
      exact ⟨Nat.zero_le _, by show (i 1).val < 0 + 512; omega⟩

theorem mem_slab {k : Fin 4} {i : S1x512x512.Idx} : i ∈ (slab k).set ↔ 128 * k.val ≤ (i 1).val ∧ (i 1).val < 128 * k.val + 128 := by
  rw [Rect.mem_set_unit]
  constructor
  · intro h; have := h 1; exact this
  · intro h a
    fin_cases a
    · have : (i 0).val < 1 := (i 0).isLt
      exact ⟨Nat.zero_le _, by show (i 0).val < 0 + 1; omega⟩
    · exact h
    · have : (i 2).val < 512 := (i 2).isLt
      exact ⟨Nat.zero_le _, by show (i 2).val < 0 + 512; omega⟩

theorem band_disjoint : ∀ t t' : Fin 4, t ≠ t' → Disjoint (band t).set (band t').set := fun t t' h =>
  Finset.disjoint_left.mpr fun i h1 h2 => by
    rw [mem_band] at h1 h2
    exact h (Fin.ext (by omega))

theorem slab_disjoint : ∀ t t' : Fin 4, t ≠ t' → Disjoint (slab t).set (slab t').set := fun t t' h =>
  Finset.disjoint_left.mpr fun i h1 h2 => by
    rw [mem_slab] at h1 h2
    exact h (Fin.ext (by omega))

theorem band_cover : (Finset.univ : Finset (Fin 4)).biUnion (fun t => (band t).set) = Finset.univ := by
  refine Finset.eq_univ_iff_forall.mpr fun i => Finset.mem_biUnion.mpr ?_
  have h : (i 0).val < 512 := (i 0).isLt
  exact ⟨⟨(i 0).val / 128, by omega⟩, Finset.mem_univ _, mem_band.mpr ⟨by show 128 * ((i 0).val / 128) ≤ _; omega, by
    show _ < 128 * ((i 0).val / 128) + 128; omega⟩⟩

theorem slab_cover : (Finset.univ : Finset (Fin 4)).biUnion (fun t => (slab t).set) = Finset.univ := by
  refine Finset.eq_univ_iff_forall.mpr fun i => Finset.mem_biUnion.mpr ?_
  have h : (i 1).val < 512 := (i 1).isLt
  exact ⟨⟨(i 1).val / 128, by omega⟩, Finset.mem_univ _, mem_slab.mpr ⟨by show 128 * ((i 1).val / 128) ≤ _; omega, by
    show _ < 128 * ((i 1).val / 128) + 128; omega⟩⟩

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## Loads and stores by what is owned -/

section Rules

variable (c : Dev nD) {cs : CoreSpace} {s : Shape} {e : EltTy} (m : Memref sig .tc cs s e) (r : Rect s) (hr : ∀ a, r.stride a = 1)
variable {α : Type}

abbrev run (p : Prog (TpuEff nD τ sig (Elt F) Λ₀ .tc) α) (Q : α → sProp 𝕄) : sProp 𝕄 :=
  wp frame (wpE (defs₀ (F := F)) 𝒱₀ (c : Thread nD τ) none) Set.univ p Q

/-- `c` owns all of memref `m` and reads `X` through it. -/
abbrev has {sp : Space} {sh : Shape} {e : EltTy} (m : Memref sig .tc sp sh e) (X : sh.Idx → Elt F e) : sProp 𝕄 :=
  owns (Ix := Unit) (Name := ℕ) (U := UU) (Lvl := ℕ) (c : Thread nD τ) m fullShare X

/-- Owning just the band it reads, a load returns the band's contents. -/
theorem load_part {hl : m.view.LoadsAt r.toLoadRect} {k : (r.shape.Idx → Elt F e) → Prog (TpuEff nD τ sig (Elt F) Λ₀ .tc) α} {Q : α → sProp 𝕄}
    (X : r.shape.Idx → Elt F e) :
    has c (m.slice r hr) X ⊢ iprop((has c (m.slice r hr) X -∗ run c (k X) Q) -∗ run c (.op (.load m r.toLoadRect hl) k) Q) := by
  unfold has run owns
  iintro ⟨%f, %hf, H⟩ Hk
  subst hf
  iapply (wp_load_rect 𝒱₀ (c : Thread nD τ) none Set.univ (m := m) (r := r) (Finset.Subset.refl _)) $$ H
  iintro H
  iapply Hk
  iexists f
  isplitr; · ipureintro; rfl
  iexact H

/-- Owning the whole memref, a load at a rectangle returns its contents there. -/
theorem load_in {hl : m.view.LoadsAt r.toLoadRect} {k : (r.shape.Idx → Elt F e) → Prog (TpuEff nD τ sig (Elt F) Λ₀ .tc) α} {Q : α → sProp 𝕄}
    (X : s.Idx → Elt F e) :
    has c m X ⊢ iprop((has c m X -∗ run c (k fun j => X (r.emb j)) Q) -∗ run c (.op (.load m r.toLoadRect hl) k) Q) := by
  unfold has run owns
  iintro ⟨%f, %hf, H⟩ Hk
  subst hf
  iapply (wp_load 𝒱₀ (c : Thread nD τ) none Set.univ (m := m) (r := r.toLoadRect) (View.setOn_subset_set _ _)) $$ H
  iintro H
  iapply Hk
  iexists f
  isplitr; · ipureintro; rfl
  iexact H

/-- Owning just the band it fills, a store leaves the stored value there. -/
theorem store_part {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} (X : r.shape.Idx → Elt F e) :
    has c (m.slice r hr) X
      ⊢ iprop((has c (m.slice r hr) w -∗ run c (k ⟨⟩) Q) -∗ run c (.op (.store m r w Finset.univ hx hm) k) Q) := by
  unfold has run owns
  iintro ⟨%f, %hf, H⟩ Hk
  iapply (wp_store 𝒱₀ (c : Thread nD τ) none Set.univ (m := m) (r := r) (Mk := Finset.univ) (S := (m.access r).set) (f := f)
    (Finset.Subset.refl _)) $$ H
  iintro H
  iapply Hk
  iexists ((m.access r).write (Elt F) f w Finset.univ)
  isplitr; · ipureintro; exact View.read_write_univ _ _
  iexact H

/-- A store over a whole buffer leaves the stored value in it. -/
theorem store_scale {w : S1x512.Idx → Elt F .f32} {hx : (ss.access (Rect.unit (s := S1x512) ![0, 0] S1x512.size inb_S1x512_S1x512_0_0)).Stores Finset.univ}
    {hm : (Finset.univ : Finset S1x512.Idx) = Finset.univ ∨ ∀ a, (Rect.unit (s := S1x512) ![0, 0] S1x512.size inb_S1x512_S1x512_0_0).stride a = 1}
    {k : PUnit → Prog (TpuEff nD τ sig (Elt F) Λ₀ .tc) α} {Q : α → sProp 𝕄} (X : S1x512.Idx → Elt F .f32) :
    has c ss X
      ⊢ iprop((has c ss w -∗ run c (k ⟨⟩) Q)
        -∗ run c (.op (.store ss (Rect.unit (s := S1x512) ![0, 0] S1x512.size inb_S1x512_S1x512_0_0) w Finset.univ hx hm) k) Q) := by
  unfold has run owns
  iintro ⟨%f, %hf, H⟩ Hk
  iapply (wp_store 𝒱₀ (c : Thread nD τ) none Set.univ (m := ss) (r := Rect.unit (s := S1x512) ![0, 0] S1x512.size inb_S1x512_S1x512_0_0)
    (Mk := Finset.univ) (by rw [View.set_whole]; exact Finset.subset_univ _)) $$ H
  iintro H
  iapply Hk
  iexists w
  isplitr; · ipureintro; rfl
  rw [show (ss.access (Rect.unit (s := S1x512) ![0, 0] S1x512.size inb_S1x512_S1x512_0_0)).write (Elt F) f w Finset.univ = w from
    Memref.write_access_unit_zero_univ (Elt F) cc0_scratch2 (funext fun a => by fin_cases a <;> rfl) _ f w]
  iexact H

end Rules

end Cert.Permute

end
-- ==== Proof.Mesh.lean ====
/-
# The mesh and the permutation

Sixteen devices, numbered `8x + 4y + z` on the 2×2×4 mesh. The permutation `σ` of the four places along `z` moves
the block of device `(x, y, z)` to device `(x, y, σ z)`. The kernel reads `σ` as a table of four words: it looks its
own target up, and finds its source by comparing the four words with its own place.
-/
module

public import proofs.«01_k».proof.Proof.Memory

@[expose] public section

noncomputable section

namespace Cert.Permute

open Cert.KernelIdeal Cert.KernelIdeal.Gen
open Idealize.ShloMosaic

/-- A device's place along `z`, -/
def place (c : Dev nD) : Fin 4 := ⟨c.val % 4, Nat.mod_lt _ (by decide)⟩
/-- and the device of the same `x` and `y` at place `z`. -/
def atPlace (c : Dev nD) (z : Fin 4) : Dev nD := ⟨c.val / 4 * 4 + z.val, by
  have h : c.val < 16 := c.isLt
  have := z.isLt
  show _ < 16
  omega⟩

theorem place_atPlace (c : Dev nD) (z : Fin 4) : place (atPlace c z) = z := by revert c z; decide
theorem atPlace_atPlace (c : Dev nD) (z z' : Fin 4) : atPlace (atPlace c z) z' = atPlace c z' := by revert c z z'; decide
theorem atPlace_place (c : Dev nD) : atPlace c (place c) = c := by revert c; decide

variable (σ : Equiv.Perm (Fin 4))

/-- Where a device's block goes, and where the block it receives comes from. -/
def tgt (c : Dev nD) : Dev nD := atPlace c (σ (place c))
def org (c : Dev nD) : Dev nD := atPlace c (σ.symm (place c))

theorem org_tgt (c : Dev nD) : org σ (tgt σ c) = c := by
  unfold org tgt; rw [place_atPlace, atPlace_atPlace, Equiv.symm_apply_apply, atPlace_place]
theorem tgt_org (c : Dev nD) : tgt σ (org σ c) = c := by
  unfold org tgt; rw [place_atPlace, atPlace_atPlace, Equiv.apply_symm_apply, atPlace_place]

def ring : Dev nD ≃ Dev nD := ⟨tgt σ, org σ, org_tgt σ, tgt_org σ⟩

/-- The table's word for a place. -/
abbrev word (z : Fin 4) : BitVec 32 := BitVec.ofNat 32 z.val

/-! ## The target, as each of the five transfers computes it -/

theorem off1_eq (c : Dev nD) : k0_off1 c = ![(place c).val] := by revert c; decide

theorem dev2_at : ∀ (c : Dev nD) (z : Fin 4), k0_dev2 c (word z) = (atPlace c z).val := by decide
theorem dev3_at : ∀ (c : Dev nD) (z : Fin 4), k0_dev3 c (word z) = (atPlace c z).val := by decide
theorem dev4_at : ∀ (c : Dev nD) (z : Fin 4), k0_dev4 c (word z) = (atPlace c z).val := by decide
theorem dev5_at : ∀ (c : Dev nD) (z : Fin 4), k0_dev5 c (word z) = (atPlace c z).val := by decide
theorem dev6_at : ∀ (c : Dev nD) (z : Fin 4), k0_dev6 c (word z) = (atPlace c z).val := by decide

theorem chk2_at (c : Dev nD) (z : Fin 4) : k0_chk2 c (word z) :=
  ⟨dev2_at c z ▸ (atPlace c z).isLt, dev3_at c z ▸ (atPlace c z).isLt, dev4_at c z ▸ (atPlace c z).isLt,
    dev5_at c z ▸ (atPlace c z).isLt, dev6_at c z ▸ (atPlace c z).isLt⟩

/-! ## The source, from the four words -/

/-- The comparisons pick the place whose word is the device's own: at most one is, the words being of distinct places. -/
theorem dev1_pick : ∀ (c : Dev nD) (z a b d e : Fin 4), (z = 0 → a = place c) → (z = 1 → b = place c) → (z = 2 → d = place c) → (z = 3 → e = place c) →
    (z ≠ 0 → a ≠ place c) → (z ≠ 1 → b ≠ place c) → (z ≠ 2 → d ≠ place c) → (z ≠ 3 → e ≠ place c) →
    k0_dev1 c (word a) (word b) (word d) (word e) = (atPlace c z).val := by
  decide +kernel

theorem dev1_at (c : Dev nD) : k0_dev1 c (word (σ 0)) (word (σ 1)) (word (σ 2)) (word (σ 3)) = (org σ c).val := by
  have hit (k : Fin 4) (h : σ.symm (place c) = k) : σ k = place c := by rw [← h, Equiv.apply_symm_apply]
  have miss (k : Fin 4) (h : σ.symm (place c) ≠ k) : σ k ≠ place c := fun h' => h (by rw [← h', Equiv.symm_apply_apply])
  exact dev1_pick c (σ.symm (place c)) (σ 0) (σ 1) (σ 2) (σ 3) (hit 0) (hit 1) (hit 2) (hit 3) (miss 0) (miss 1) (miss 2) (miss 3)

theorem chk1_at (c : Dev nD) : k0_chk1 c (word (σ 0)) (word (σ 1)) (word (σ 2)) (word (σ 3)) := by
  show k0_dev1 c _ _ _ _ < nD
  rw [dev1_at]; exact (org σ c).isLt

end Cert.Permute

end
-- ==== Proof.Schedule.lean ====
/-
# Who pays which semaphore, and with what

Every device has eleven semaphores that matter: the barrier (0), one completion per transfer it sends (1 the scale
row, 2 – 5 the four bands of codes) and one per transfer it receives (6 the scale row, 7 – 10 the bands). Each is raised
once and waited for once:

* the barrier of `c` by the device `c` sends to, which hands over its receive buffers;
* a send completion by the transfer itself, which hands the source back;
* a receive completion by the transfer of the device `c` receives from, which hands over the filled receive buffer.
-/
module

public import proofs.«01_k».proof.Proof.Mesh

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Equiv.Perm (Fin 4))
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## What the buffers hold -/

/-- The staged input block and table of a device. -/
def xstg (c : Dev nD) : S1x512x512.Idx → Elt F .bf16 :=
  (win0_0.blk (0 : Fin 1)).view.read (Elt F) (m ((c : Thread nD τ).loc main_arg0))
def tabstg (c : Dev nD) : S4.Idx → Elt F .i32 :=
  (win0_1.blk (0 : Fin 1)).view.read (Elt F) (m ((c : Thread nD τ).loc main_arg1))

/-- The scale row of a device, -/
def scl (c : Dev nD) : S1x512.Idx → Elt F .f32 := k0_pay4 (k0_pay1 (xstg m c))
/-- the codes of one of its bands, -/
def codes (c : Dev nD) (k : Fin 4) : S128x512.Idx → Elt F .i8 :=
  k0_pay6 (k0_pay3 (k0_pay1 (xstg m c))) (fun j => xstg m c ((slab k).emb j))
/-- the scale as its receiver reads it, -/
def scaleOf (c : Dev nD) : F .bf16 :=
  k0_pay10 fun j => scl m c ((Rect.unit (s := S1x512) ![0, 0] S1x1.size inb_S1x512_S1x1_0_0).emb j)
/-- and a band of the result on the device that receives `c`'s block. -/
def outBand (c : Dev nD) (k : Fin 4) : S1x128x512.Idx → Elt F .bf16 := k0_pay12 (scaleOf m c) (codes m c k)

/-! ## The semaphores -/

/-- The barrier semaphore, which outlives the kernel. -/
abbrev barS : Sem sig := (SemArray.scalar (sig.barrier 0 rfl) : Sems sig S_).sem

/-- The eleven semaphores. -/
def csem : Fin 11 → SemLoc sig
  | 0 => .reg barS
  | 1 => .dma ⟨11, by decide⟩
  | 2 => .dma ⟨3, by decide⟩
  | 3 => .dma ⟨4, by decide⟩
  | 4 => .dma ⟨5, by decide⟩
  | 5 => .dma ⟨6, by decide⟩
  | 6 => .dma ⟨12, by decide⟩
  | 7 => .dma ⟨7, by decide⟩
  | 8 => .dma ⟨8, by decide⟩
  | 9 => .dma ⟨9, by decide⟩
  | 10 => .dma ⟨10, by decide⟩

abbrev cell (c : Dev nD) (i : Fin 11) : GSem nD τ sig := ((c : Thread nD τ), csem i)

/-- Which of the eleven a semaphore is, if any. -/
def role : SemLoc sig → Option (Fin 11)
  | .reg _ => some 0
  | .dma q => match q.val with
    | 3 => some 2
    | 4 => some 3
    | 5 => some 4
    | 6 => some 5
    | 7 => some 7
    | 8 => some 8
    | 9 => some 9
    | 10 => some 10
    | 11 => some 1
    | 12 => some 6
    | _ => none

theorem role_csem (i : Fin 11) : role (csem i) = some i := by revert i; decide

theorem csem_injective : Function.Injective csem := fun i j h =>
  Option.some.inj ((role_csem i).symm.trans ((congrArg role h).trans (role_csem j)))

/-- What each is raised by: one by the barrier's signal, a transfer's credit by a transfer. -/
def amt : Fin 11 → ℕ
  | 0 => 1
  | 1 => sr.view.dmaCredit
  | 2 => (qrk 0).view.dmaCredit
  | 3 => (qrk 1).view.dmaCredit
  | 4 => (qrk 2).view.dmaCredit
  | 5 => (qrk 3).view.dmaCredit
  | 6 => sr.view.dmaCredit
  | 7 => (qrk 0).view.dmaCredit
  | 8 => (qrk 1).view.dmaCredit
  | 9 => (qrk 2).view.dmaCredit
  | 10 => (qrk 3).view.dmaCredit

theorem amt_pos (i : Fin 11) : 0 < amt i := by
  fin_cases i
  · exact Nat.one_pos
  all_goals exact View.dmaCredit_pos _ (by decide)

/-! ## The payloads -/

/-- A device's receive buffers, whatever they hold. -/
def rooms (c : Dev nD) : sProp 𝕄 :=
  iprop((∃ X, has c sr X) ∗ (∃ X, has c (qrk 0) X) ∗ (∃ X, has c (qrk 1) X) ∗ (∃ X, has c (qrk 2) X) ∗ (∃ X, has c (qrk 3) X))

/-- What device `c` obtains when it has waited for its semaphore `i`. -/
def pay (c : Dev nD) : Fin 11 → sProp 𝕄
  | 0 => rooms (tgt σ c)
  | 1 => has c ss (scl m c)
  | 2 => has c (qsk 0) (codes m c 0)
  | 3 => has c (qsk 1) (codes m c 1)
  | 4 => has c (qsk 2) (codes m c 2)
  | 5 => has c (qsk 3) (codes m c 3)
  | 6 => has c sr (scl m (org σ c))
  | 7 => has c (qrk 0) (codes m (org σ c) 0)
  | 8 => has c (qrk 1) (codes m (org σ c) 1)
  | 9 => has c (qrk 2) (codes m (org σ c) 2)
  | 10 => has c (qrk 3) (codes m (org σ c) 3)

instance pay_storable (c : Dev nD) (i : Fin 11) : BI.Storable (upEmb : UEmb _ 𝕄) (pay σ m c i) := by
  unfold pay rooms has; split <;> infer_instance

/-- The schedule: one round, one duty per semaphore. -/
def Rd : Rounds.Schedule (GSem nD τ sig) Unit 𝕄 where
  duties g r := if r = 0 ∧ g.1.2 = .tc ∧ (role g.2).isSome then {()} else ∅
  unitless _ := False
  amount g _ _ := match role g.2 with
    | some i => amt i
    | none => 1
  payload g _ _ := match role g.2 with
    | some i => pay σ m g.1.1 i
    | none => iprop(emp)
  amount_pos g _ _ _ := by
    cases h : role g.2 with
    | none => exact Nat.one_pos
    | some i => exact amt_pos i

instance Rd_storable (g : GSem nD τ sig) (r : ℕ) (d : Unit) : BI.Storable (upEmb : UEmb _ 𝕄) ((Rd σ m).payload g r d) := by
  dsimp only [Rd]; split <;> infer_instance

section Facts

variable (c : Dev nD) (i : Fin 11)

theorem duties_at : (Rd σ m).duties (cell c i) 0 = {()} := by
  dsimp only [Rd]; rw [role_csem]; exact if_pos ⟨rfl, rfl, rfl⟩
theorem duty_mem : () ∈ (Rd σ m).duties (cell c i) 0 := by rw [duties_at]; exact Finset.mem_singleton_self _
theorem duties_later (g : GSem nD τ sig) : ∀ r, 1 ≤ r → (Rd σ m).duties g r = ∅ :=
  fun r hr => by dsimp only [Rd]; exact if_neg fun h => by omega
theorem amount_at : (Rd σ m).amount (cell c i) 0 () = amt i := by dsimp only [Rd]; rw [role_csem]
theorem payload_at : (Rd σ m).payload (cell c i) 0 () = pay σ m c i := by dsimp only [Rd]; rw [role_csem]
theorem expect_at : (Rd σ m).expect (cell c i) 0 = amt i := by
  unfold Schedule.expect Schedule.amountOf; rw [duties_at, Finset.sum_singleton, amount_at]
theorem rest_at : bigSep ((Rd σ m).duties (cell c i) 0 \ ∅) (fun d => (Rd σ m).payload (cell c i) 0 d) = pay σ m c i := by
  rw [Finset.sdiff_empty, duties_at, bigSep_singleton, payload_at]

end Facts

/-! ## What a device owes, and the levels -/

/-- What `c` owes the receive semaphores of its target that are listed. -/
def dues (c : Dev nD) : List (Fin 11) → CellTallies nD τ sig Unit
  | [] => 0
  | i :: l => dues c l + tallyAt (cell (tgt σ c) i) () (amt i)

/-- At launch: the five receive semaphores of its target, and its source's barrier. -/
def O₀ (c : Dev nD) : CellTallies nD τ sig Unit := dues σ c [6, 7, 8, 9, 10] + tallyAt (cell (org σ c) 0) () 1

def L (g : GSem nD τ sig) : Finset Unit := if g.1.2 = .tc then {()} else ∅
/-- The barrier at level 1, receive completions at 2, everything else at 0. -/
def lv (g : GSem nD τ sig) (_ : Unit) : ℕ := match role g.2 with
  | some i => if i.val = 0 then 1 else if 6 ≤ i.val then 2 else 0
  | none => 0

theorem L_of_ne (g : GSem nD τ sig) (h : g.1.2 ≠ .tc) : L g = ∅ := if_neg h
theorem L_tc (c : Dev nD) (sm : SemLoc sig) : L ((c : Thread nD τ), sm) = {()} := if_pos rfl

theorem lv_at (c : Dev nD) (i : Fin 11) : lv (cell c i) () = if i.val = 0 then 1 else if 6 ≤ i.val then 2 else 0 := by
  unfold lv; rw [role_csem]

theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem dues_pos {c : Dev nD} {l : List (Fin 11)} {g : GSem nD τ sig} {u : Unit} (h : 0 < dues σ c l g u) : ∃ i ∈ l, g = cell (tgt σ c) i := by
  induction l with
  | nil => exact absurd h (Nat.lt_irrefl 0)
  | cons i l ih =>
    unfold dues at h
    rw [Pi.add_apply, Finsupp.add_apply] at h
    rcases Nat.eq_zero_or_pos (dues σ c l g u) with h0 | h0
    · rw [h0, Nat.zero_add] at h
      exact ⟨i, List.mem_cons_self, tally_pos h⟩
    · obtain ⟨j, hj, hg⟩ := ih h0
      exact ⟨j, List.mem_cons_of_mem _ hj, hg⟩

theorem O₀_pos {c : Dev nD} {g : GSem nD τ sig} {u : Unit} (h : 0 < O₀ σ c g u) :
    (∃ i ∈ [6, 7, 8, 9, 10], g = cell (tgt σ c) i) ∨ g = cell (org σ c) 0 := by
  unfold O₀ at h
  rw [Pi.add_apply, Finsupp.add_apply] at h
  rcases Nat.eq_zero_or_pos (dues σ c [6, 7, 8, 9, 10] g u) with h0 | h0
  · rw [h0, Nat.zero_add] at h
    exact Or.inr (tally_pos h)
  · exact Or.inl (dues_pos σ h0)

theorem lv_recv {c : Dev nD} {i : Fin 11} (h : i ∈ [6, 7, 8, 9, 10]) : lv (cell c i) () = 2 := by
  rw [lv_at]; revert i; decide

/-- A staging semaphore is below everything owed. -/
theorem mayWait_stage (c : Dev nD) (q : SemLoc sig) (hq : role q = none) (O : CellTallies nD τ sig Unit) (hO : O = O₀ σ c ∨ O = 0) :
    (levAts L lv : sProp 𝕄) ⊢ MayWait (c : Thread nD τ) q () O := by
  rcases hO with rfl | rfl
  · refine MayOwe.of_cut (L := L) (lev := lv) 0 (fun p hp => by rw [Finset.mem_singleton.mp hp, L_tc]; exact Finset.mem_singleton_self _)
      (fun g u hg => by rcases O₀_pos σ hg with ⟨i, _, rfl⟩ | rfl <;> (rw [L_tc]; exact Finset.mem_singleton_self _))
      (fun p hp => by rw [Finset.mem_singleton.mp hp]; dsimp only [lv]; rw [hq])
      (fun g u hg => by
        rcases O₀_pos σ hg with ⟨i, hi, rfl⟩ | rfl
        · rw [lv_recv hi]; decide
        · rw [lv_at]; decide)
  · rw [MayWait_zero]; iintro -; iempintro

/-- At its barrier wait a device owes receive completions only: above the barrier. -/
theorem mayWait_bar (c : Dev nD) :
    (levAts L lv : sProp 𝕄) ⊢ MayWait (c : Thread nD τ) (csem 0) () (dues σ c [6, 7, 8, 9, 10]) :=
  MayOwe.of_cut (L := L) (lev := lv) 1 (fun p hp => by rw [Finset.mem_singleton.mp hp, L_tc]; exact Finset.mem_singleton_self _)
    (fun g u hg => by obtain ⟨i, _, rfl⟩ := dues_pos σ hg; rw [L_tc]; exact Finset.mem_singleton_self _)
    (fun p hp => by
      rw [Finset.mem_singleton.mp hp]; exact le_of_eq ((lv_at c 0).trans rfl))
    (fun g u hg => by obtain ⟨i, hi, rfl⟩ := dues_pos σ hg; rw [lv_recv hi]; decide)

end Cert.Permute

end
-- ==== Proof.Steps.lean ====
/-
# One step at a time

The three steps of the protocol, each stated once for every semaphore: a wait (which also closes the semaphore: it is not
used again), a transfer to the target, and the signal to the source's barrier.
-/
module

public import proofs.«01_k».proof.Proof.Schedule

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Equiv.Perm (Fin 4))
variable (m : (ℓ : Loc nD τ sig) → Buf (Elt F) ℓ)
variable (K : Dev nD × Fin 11 → ℕ)

/-- All semaphores' invariants, and that each has reached its round. -/
def records : sProp 𝕄 :=
  iprop((bigSep Finset.univ fun ck : Dev nD × Fin 11 => cellInv ER (Rd σ m) (K ck) (cell ck.1 ck.2))
    ∗ bigSep Finset.univ fun ck : Dev nD × Fin 11 => reached ER (cell ck.1 ck.2) 0)

instance records_persistent : BI.Persistent (records σ m K) := by unfold records; infer_instance

theorem inv_of (c : Dev nD) (i : Fin 11) : records σ m K ⊢ cellInv ER (Rd σ m) (K (c, i)) (cell c i) := by
  unfold records
  iintro ⟨H, -⟩
  iapply (show (bigSep Finset.univ fun ck : Dev nD × Fin 11 => (cellInv ER (Rd σ m) (K ck) (cell ck.1 ck.2) : sProp 𝕄))
      ⊢ cellInv ER (Rd σ m) (K (c, i)) (cell c i) from bigSep_elim (Finset.mem_univ (c, i)))
  iexact H

theorem reached_of (c : Dev nD) (i : Fin 11) : records σ m K ⊢ reached ER (cell c i) 0 := by
  unfold records
  iintro ⟨-, H⟩
  iapply (show (bigSep Finset.univ fun ck : Dev nD × Fin 11 => (reached ER (cell ck.1 ck.2) 0 : sProp 𝕄))
      ⊢ reached ER (cell c i) 0 from bigSep_elim (Finset.mem_univ (c, i)))
  iexact H

/-- `c` owes `O`. -/
def owing (c : Dev nD) (O : CellTallies nD τ sig Unit) : sProp 𝕄 := iprop(∃ W, owes (c : Thread nD τ) O W)

/-- The token of a semaphore's one duty; the right to wait for it; its credit. -/
abbrev tok (c : Dev nD) (i : Fin 11) : sProp 𝕄 := dutyTok ER (cell c i) 0 ()
abbrev turn (c : Dev nD) (i : Fin 11) : sProp 𝕄 := atPos ER (cell c i) 0 ∅ 0
abbrev due (c : Dev nD) (i : Fin 11) : sProp 𝕄 := cred (tallyAt (cell c i) () (amt i))

variable {α : Type} (c : Dev nD)

/-- Waiting for one's own semaphore `i`: what it pays, and the semaphore back at zero. -/
theorem wait_step (i : Fin 11) {w : TpuEff nD τ sig (Elt F) Λ₀ .tc PUnit} {sm : SemLoc sig} {k' : ℕ}
    {k : PUnit → Prog (TpuEff nD τ sig (Elt F) Λ₀ .tc) α} {Q : α → sProp 𝕄}
    (hw : ∀ Kt : PUnit → sProp 𝕄, wpE (defs₀ (F := F)) 𝒱₀ (c : Thread nD τ) none Set.univ w Kt = waitSpec (c : Thread nD τ) Set.univ sm k' Kt)
    (hsm : sm = csem i) (hk : k' = amt i) (O : CellTallies nD τ sig Unit) :
    iprop(records σ m K ∗ due c i ∗ owing c O ∗ MayWait (c : Thread nD τ) (csem i) () O ∗ turn c i)
      ⊢ iprop(((owing c O ∗ semVal (cell c i) 0 ∗ pay σ m c i) -∗ run c (k ⟨⟩) Q) -∗ run c (.op w k) Q) := by
  subst hsm hk
  unfold run owing
  iintro ⟨#HR, Hc, ⟨%W, HO⟩, Hm, Hat⟩ Hk
  ihave #HI := (inv_of σ m K c i) $$ HR
  iapply (Rounds.wp_wait_rest_token 𝒱₀ ER (Rd σ m) (c : Thread nD τ) none (κ := K (c, i))
      hw (Set.mem_univ _) () (O := O) (W := W) (R := 0) (m := 0) (T := ∅)
      (by rw [Nat.zero_add]; exact (expect_at σ m c i).symm)) $$ [Hc HO Hm Hat]
  · isplitr; · iexact HI
    isplitl [Hc]; · iexact Hc
    isplitl [HO]; · iexact HO
    isplitl [Hm]; · iexact Hm
    iexact Hat
  iintro ⟨HO, Hat, -, Hpay⟩
  ihave Hp := (Entails.of_eq (rest_at σ m c i)) $$ Hpay
  imod (Rounds.cell_close ER (Rd σ m) (Set.mem_univ (K (c, i))) (fun h => h) (R := 0 + 1) (duties_later σ m (cell c i))) $$ [Hat] with Hz
  · isplitr; · iexact HI
    iexact Hat
  iapply Hk
  isplitl [HO]; · iexists _; iexact HO
  isplitl [Hz]; · iexact Hz
  iexact Hp

/-- The same where nothing is owed. -/
theorem wait_step₀ (i : Fin 11) {w : TpuEff nD τ sig (Elt F) Λ₀ .tc PUnit} {sm : SemLoc sig} {k' : ℕ}
    {k : PUnit → Prog (TpuEff nD τ sig (Elt F) Λ₀ .tc) α} {Q : α → sProp 𝕄}
    (hw : ∀ Kt : PUnit → sProp 𝕄, wpE (defs₀ (F := F)) 𝒱₀ (c : Thread nD τ) none Set.univ w Kt = waitSpec (c : Thread nD τ) Set.univ sm k' Kt)
    (hsm : sm = csem i) (hk : k' = amt i) :
    iprop(records σ m K ∗ due c i ∗ owing c 0 ∗ turn c i)
      ⊢ iprop(((owing c 0 ∗ semVal (cell c i) 0 ∗ pay σ m c i) -∗ run c (k ⟨⟩) Q) -∗ run c (.op w k) Q) := by
  iintro ⟨#HR, Hc, HO, Hat⟩ Hk
  iapply (wait_step σ m K c i hw hsm hk 0) $$ [Hc HO Hat]
  · isplitr; · iexact HR
    isplitl [Hc]; · iexact Hc
    isplitl [HO]; · iexact HO
    isplitr; · rw [MayWait_zero]; iempintro
    iexact Hat
  iexact Hk

/-- A transfer to the target: its send completion `i` will hand the source back, the target's receive completion `j` is
    paid with the destination filled. -/
theorem send_step (i j : Fin 11) (l : List (Fin 11)) {s : Shape} {e : EltTy} {n : Dev nD} (hn : n = tgt σ c)
    {src dst : Memref sig .tc .vmem s e} {X : s.Idx → Elt F e} {sS sem : SemLoc sig} {hsc : dst.view.ref.isScScratch = false}
    {hsrc : src.view.WordExact} {hdst : dst.view.WordExact} {hsem : DmaTarget.Typed .vmem sem (.remote (Dev.tc n : Thread nD τ) dst sS hsc)}
    {k : PUnit → Prog (TpuEff nD τ sig (Elt F) Λ₀ .tc) α} {Q : α → sProp 𝕄}
    (hS : sS = csem i) (hR : sem = csem j) (hN : dst.view.amount sem = amt i) (hN' : amt j = amt i)
    (hpayS : pay σ m c i = has c src X) (hpayR : pay σ m (tgt σ c) j = has (tgt σ c) dst X) :
    iprop(records σ m K ∗ has c src X ∗ (∃ Y, has (tgt σ c) dst Y) ∗ owing c (dues σ c (j :: l)) ∗ tok c i ∗ tok (tgt σ c) j)
      ⊢ iprop(((due c i ∗ owing c (dues σ c l)) -∗ run c (k ⟨⟩) Q)
          -∗ run c (.op (.enqueueDma src (.remote (Dev.tc n : Thread nD τ) dst sS hsc) sem hsrc hdst hsem) k) Q) := by
  subst hn hS hR
  unfold run owing has owns
  iintro ⟨#HR, ⟨%fs, %hfs, Hs⟩, ⟨%Y, %fd, %hfd, Hd⟩, ⟨%W, HO⟩, Hti, Htj⟩ Hk
  ihave #HI := (inv_of σ m K c i) $$ HR
  ihave #HJ := (inv_of σ m K (tgt σ c) j) $$ HR
  ihave #Hri := (reached_of σ m K c i) $$ HR
  ihave #Hrj := (reached_of σ m K (tgt σ c) j) $$ HR
  iapply (Rounds.wp_send_pointsTo 𝒱₀ ER (Rd σ m) (c : Thread nD τ) none (κ₁ := K (c, i)) (κ₂ := K (tgt σ c, j))
    (r₁ := 0) (r₂ := 0) (d₁ := ()) (d₂ := ()) (fs := fs) (fd := fd) (q := fullShare)
    (duty_mem σ m c i) (duty_mem σ m (tgt σ c) j)
    () () (amt i) hN (amount_at σ m c i) ((amount_at σ m (tgt σ c) j).trans hN') (dues σ c l)
    (O₀ := dues σ c (j :: l)) (congrArg (fun n => dues σ c l + tallyAt (cell (tgt σ c) j) () n) hN') (W := W)
    (by rw [payload_at, hpayS]; unfold has owns
        iintro H; iexists fs; isplitr; · ipureintro; exact hfs
        iexact H)
    (by rw [payload_at, hpayR]; unfold has owns
        iintro H; iexists _; isplitr; swap; · iexact H
        ipureintro; rw [← hfs]; exact View.read_write_univ _ _)) $$ [Hs Hd HO Hti Htj]
  · isplitr; · iexact HI
    isplitr; · iexact HJ
    isplitl [Hs]; · iexact Hs
    isplitl [Hd]; · iexact Hd
    isplitl [HO]; · iexact HO
    isplitl [Hti]; · iexact Hti
    isplitr; · iexact Hri
    isplitl [Htj]; · iexact Htj
    iexact Hrj
  iintro ⟨Hc, HO⟩
  iapply Hk
  isplitl [Hc]; · iexact Hc
  iexists _; iexact HO

/-- The signal to the source's barrier, which hands it one's receive buffers. -/
theorem signal_step {n : Dev nD} (hn : n = org σ c) {k' : ℕ} (hk' : k' = 1)
    {k : PUnit → Prog (TpuEff nD τ sig (Elt F) Λ₀ .tc) α} {Q : α → sProp 𝕄} :
    iprop(records σ m K ∗ rooms c ∗ owing c (O₀ σ c) ∗ tok (org σ c) 0)
      ⊢ iprop((owing c (dues σ c [6, 7, 8, 9, 10]) -∗ run c (k ⟨⟩) Q)
          -∗ run c (.op (.semSignal (Dev.tc n : Thread nD τ) barS k') k) Q) := by
  subst hn hk'
  unfold run owing
  iintro ⟨#HR, Hrooms, ⟨%W, HO⟩, Ht⟩ Hk
  ihave #HI := (inv_of σ m K (org σ c) 0) $$ HR
  ihave #Hr := (reached_of σ m K (org σ c) 0) $$ HR
  iapply (Rounds.wp_signal 𝒱₀ ER (Rd σ m) (c : Thread nD τ) none (dst := (org σ c : Thread nD τ)) (κ := K (org σ c, 0))
      (d := ()) (duty_mem σ m (org σ c) 0) (amount_at σ m (org σ c) 0) () (dues σ c [6, 7, 8, 9, 10]) rfl)
    $$ [HO Ht Hrooms]
  · isplitr; · iexact HI
    isplitl [HO]; · iexact HO
    isplitl [Ht]; · iexact Ht
    isplitl [Hrooms]
    · rw [show (Rd σ m).payload ((org σ c : Thread nD τ), .reg barS) 0 () = rooms c from
        (payload_at σ m (org σ c) 0).trans (congrArg rooms (tgt_org σ c))]
      iexact Hrooms
    · iexact Hr
  iintro HO
  iapply Hk
  iexists _; iexact HO

end Cert.Permute

end
-- ==== Proof.Part1.lean ====
/-
# The body's first part: the handshake

The device looks its target up in the table, finds its source by comparing the table's four words with its own place, tells
the source's barrier that its receive buffers are free, and reads its block.
-/
module

public import proofs.«01_k».proof.Proof.Steps

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Equiv.Perm (Fin 4))
variable (m : (ℓ : Loc nD τ sig) → Buf (Elt F) ℓ)
variable (K : Dev nD × Fin 11 → ℕ) (c : Dev nD)

/-- The table, as a device holds it. -/
def tab : S4.Idx → Elt F .i32 := fun i => word (σ ⟨(i 0).val, (i 0).isLt⟩)

omit [FloatOps F] in
/-- The word read at place `z`. -/
theorem tab_at {off : Fin 1 → Nat} (inb : ∀ a, off a + S1.size a ≤ S4.size a) (z : Fin 4) (h : off = ![z.val]) (x : S1.Idx) :
    tab (F := F) σ ((Rect.unit (s := S4) off S1.size inb).emb x) = word (σ z) := by
  subst h
  have hx : (x 0).val = 0 := Nat.lt_one_iff.mp (x 0).isLt
  unfold tab
  refine congrArg (fun w => word (σ w)) (Fin.ext ?_)
  show z.val + 1 * (x 0).val = z.val
  rw [hx]; omega

/-- Reading the table. -/
theorem load_tab {α : Type} {off : Fin 1 → Nat} {inb : ∀ a, off a + S1.size a ≤ S4.size a} (z : Fin 4) (h : off = ![z.val])
    {hl : tM.view.LoadsAt (Rect.unit (s := S4) off S1.size inb).toLoadRect}
    {k : (S1.Idx → Elt F .i32) → Prog (TpuEff nD τ sig (Elt F) Λ₀ .tc) α} {Q : α → sProp 𝕄} :
    has c tM (tab σ)
      ⊢ iprop((has c tM (tab σ) -∗ run c (k fun _ => word (σ z)) Q)
        -∗ run c (.op (.load tM (Rect.unit (s := S4) off S1.size inb).toLoadRect hl) k) Q) := by
  rw [show (fun _ : S1.Idx => word (σ z)) = fun j => tab (F := F) σ ((Rect.unit (s := S4) off S1.size inb).emb j) from
    funext fun j => (tab_at σ inb z h j).symm]
  exact load_in c tM (Rect.unit (s := S4) off S1.size inb) (tab σ)

/-- Stepping over an assumption that holds. -/
theorem assume_step {α : Type} {P : Prop} {d : Decidable P} (h : P)
    {k : PLift P → Prog (TpuEff nD τ sig (Elt F) Λ₀ .tc) α} {Q : α → sProp 𝕄} :
    run c (k ⟨h⟩) Q ⊢ run c (.op (.assume P d) k) Q := wp_assume 𝒱₀ (c : Thread nD τ) none Set.univ h

omit [FloatOps F] in
theorem whole_block (X : S1x512x512.Idx → Elt F .bf16) :
    (fun j => X ((Rect.unit (s := S1x512x512) ![0, 0, 0] S1x512x512.size inb_S1x512x512_S1x512x512_0_0_0).emb j)) = X := by
  funext j
  refine congrArg X (funext fun a => Fin.ext ?_)
  rw [Rect.emb_apply]
  fin_cases a <;> exact (Nat.zero_add _).trans (Nat.one_mul _)

/-- What the first part hands on: the device, its coordinates, its target's word with the evidence that the transfers' targets
    exist, the barrier semaphore and the magnitudes of its block. -/
abbrev Handed : Type := Σ' (d0 : Dev nD) (v2 : BitVec 32) (v5 : BitVec 32) (v10 : Elt F .i32) (k0_hw2 : k0_chk2 d0 v10) (v23 : Sems sig S_), FVec F S512x512 .bf16

abbrev handed : Handed (F := F) :=
  ⟨c, Scalar.remsi (Scalar.divsi (Dev.word c) 8#32) 2#32, Scalar.remsi (Scalar.divsi (Dev.word c) 4#32) 2#32, word (σ (place c)),
    chk2_at c (σ (place c)), SemArray.scalar (sig.barrier 0 rfl), k0_pay1 (xstg m c)⟩

theorem part1_run {Q : Handed (F := F) → sProp 𝕄} :
    iprop(records σ m K ∗ has c xM (xstg m c) ∗ has c tM (tab σ) ∗ rooms c ∗ owing c (O₀ σ c) ∗ tok (org σ c) 0)
      ⊢ iprop(((has c xM (xstg m c) ∗ has c tM (tab σ) ∗ owing c (dues σ c [6, 7, 8, 9, 10])) -∗ Q (handed σ m c))
        -∗ run c (k0_part1 (F := F) xM (Memref.isWhole_whole _) tM (Memref.isWhole_whole _) oM (Memref.isWhole_whole _) qs (Memref.isWhole_whole _) qr (Memref.isWhole_whole _) ss (Memref.isWhole_whole _) sr (Memref.isWhole_whole _) cc0_scratch4 cc0_scratch5 cc0_scratch6 cc0_scratch7) Q) := by
  rw [k0_part1_eq_skeleton]; unfold k0_part1_skel
  simp only [semSignalWord, smemLoad, smemLoadElt, Prog.lift, Prog.bind_op, Prog.bind_ret, Prog.pure_eq_ret, run, wp_deviceId]
  iintro ⟨#HR, Hx, Ht, Hrooms, HO, Htok⟩ Hk
  iapply (load_tab σ c (place c) (off1_eq c)) $$ Ht
  iintro Ht
  iapply (assume_step c (chk2_at c (σ (place c))))
  iapply (load_tab σ c 0 rfl) $$ Ht
  iintro Ht
  iapply (load_tab σ c 1 rfl) $$ Ht
  iintro Ht
  iapply (load_tab σ c 2 rfl) $$ Ht
  iintro Ht
  iapply (load_tab σ c 3 rfl) $$ Ht
  iintro Ht
  iapply (assume_step c (chk1_at σ c))
  iapply (signal_step σ m K c (Fin.ext (dev1_at σ c)) rfl) $$ [Hrooms HO Htok]
  · isplitr; · iexact HR
    isplitl [Hrooms]; · iexact Hrooms
    isplitl [HO]; · iexact HO
    iexact Htok
  iintro HO
  iapply (load_in c xM (Rect.unit (s := S1x512x512) ![0, 0, 0] S1x512x512.size inb_S1x512x512_S1x512x512_0_0_0) (xstg m c)) $$ Hx
  iintro Hx
  rw [whole_block]
  unfold run; rw [wp_ret]; imodintro
  iapply Hk
  isplitl [Hx]; · iexact Hx
  isplitl [Ht]; · iexact Ht
  iexact HO

end Cert.Permute

end
-- ==== Proof.Part2.lean ====
/-
# The body's middle parts: quantise and send

Parts two to four: the scale row is written, each band is quantised and sent to the target as soon as it is ready.
The barrier is waited for before the first transfer.
-/
module

public import proofs.«01_k».proof.Proof.Part1

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Equiv.Perm (Fin 4))
variable (m : (ℓ : Loc nD τ sig) → Buf (Elt F) ℓ)
variable (K : Dev nD × Fin 11 → ℕ) (c : Dev nD)

/-- A load whose value is not used, followed by a store over the same band. -/
theorem overwrite {α : Type} {cs : CoreSpace} {s : Shape} {e : EltTy} (mr : Memref sig .tc cs s e) (r : Rect s) (hr : ∀ a, r.stride a = 1)
    {w : r.shape.Idx → Elt F e} {hl : mr.view.LoadsAt r.toLoadRect} {hx : (mr.access r).Stores Finset.univ}
    {hm : (Finset.univ : Finset r.shape.Idx) = Finset.univ ∨ ∀ a, r.stride a = 1}
    {k : PUnit → Prog (TpuEff nD τ sig (Elt F) Λ₀ .tc) α} {Q : α → sProp 𝕄} :
    iprop(∃ X, has c (mr.slice r hr) X)
      ⊢ iprop((has c (mr.slice r hr) w -∗ run c (k ⟨⟩) Q)
        -∗ run c (.op (.load mr r.toLoadRect hl) fun _ => .op (.store mr r w Finset.univ hx hm) k) Q) := by
  iintro ⟨%X, H⟩ Hk
  iapply (load_part c mr r hr X) $$ H
  iintro H
  iapply (store_part c mr r hr X) $$ H
  iexact Hk

/-- A band of the input block. -/
abbrev xband (k : Fin 4) : S1x128x512.Idx → Elt F .bf16 := fun j => xstg m c ((slab k).emb j)

theorem get_x {α : Type} (k : Fin 4) {hl : xM.view.LoadsAt (slab k).toLoadRect}
    {p : (S1x128x512.Idx → Elt F .bf16) → Prog (TpuEff nD τ sig (Elt F) Λ₀ .tc) α} {Q : α → sProp 𝕄} :
    has c xM (xstg m c)
      ⊢ iprop((has c xM (xstg m c) -∗ run c (p (xband m c k)) Q) -∗ run c (.op (.load xM (slab k).toLoadRect hl) p) Q) :=
  load_in c xM (slab k) (xstg m c)

theorem put_code {α : Type} (k : Fin 4) {w : S128x512.Idx → Elt F .i8} {hl : qs.view.LoadsAt (band k).toLoadRect}
    {hx : (qs.access (band k)).Stores Finset.univ} {hm : (Finset.univ : Finset S128x512.Idx) = Finset.univ ∨ ∀ a, (band k).stride a = 1}
    {p : PUnit → Prog (TpuEff nD τ sig (Elt F) Λ₀ .tc) α} {Q : α → sProp 𝕄} :
    iprop(∃ X, has c (qsk k) X)
      ⊢ iprop((has c (qsk k) w -∗ run c (p ⟨⟩) Q)
        -∗ run c (.op (.load qs (band k).toLoadRect hl) fun _ => .op (.store qs (band k) w Finset.univ hx hm) p) Q) :=
  overwrite c qs (band k) (fun _ => rfl)

theorem put_out {α : Type} (k : Fin 4) {w : S1x128x512.Idx → Elt F .bf16} {hl : oM.view.LoadsAt (slab k).toLoadRect}
    {hx : (oM.access (slab k)).Stores Finset.univ} {hm : (Finset.univ : Finset S1x128x512.Idx) = Finset.univ ∨ ∀ a, (slab k).stride a = 1}
    {p : PUnit → Prog (TpuEff nD τ sig (Elt F) Λ₀ .tc) α} {Q : α → sProp 𝕄} :
    iprop(∃ X, has c (ok k) X)
      ⊢ iprop((has c (ok k) w -∗ run c (p ⟨⟩) Q)
        -∗ run c (.op (.load oM (slab k).toLoadRect hl) fun _ => .op (.store oM (slab k) w Finset.univ hx hm) p) Q) :=
  overwrite c oM (slab k) (fun _ => rfl)

theorem get_code {α : Type} (k : Fin 4) {X : S128x512.Idx → Elt F .i8} {hl : qr.view.LoadsAt (band k).toLoadRect}
    {p : (S128x512.Idx → Elt F .i8) → Prog (TpuEff nD τ sig (Elt F) Λ₀ .tc) α} {Q : α → sProp 𝕄} :
    has c (qrk k) X ⊢ iprop((has c (qrk k) X -∗ run c (p X) Q) -∗ run c (.op (.load qr (band k).toLoadRect hl) p) Q) :=
  load_part c qr (band k) (fun _ => rfl) X

theorem part2_run {v2 v5 : BitVec 32} {hw : k0_chk2 c (word (σ (place c)))}
    {Q : (Σ' (v40 : FVec F S1x1 .bf16), BitVec 32) → sProp 𝕄} :
    iprop(records σ m K ∗ (levAts L lv : sProp 𝕄) ∗ has c xM (xstg m c) ∗ (∃ X, has c ss X) ∗ (∃ X, has c (qsk 0) X)
        ∗ owing c (dues σ c [6, 7, 8, 9, 10]) ∗ due c 0 ∗ turn c 0 ∗ tok c 1 ∗ tok (tgt σ c) 6)
      ⊢ iprop(((has c xM (xstg m c) ∗ has c (qsk 0) (codes m c 0) ∗ owing c (dues σ c [7, 8, 9, 10]) ∗ due c 1 ∗ semVal (cell c 0) 0
            ∗ (∃ X, has (tgt σ c) (qrk 0) X) ∗ (∃ X, has (tgt σ c) (qrk 1) X) ∗ (∃ X, has (tgt σ c) (qrk 2) X) ∗ (∃ X, has (tgt σ c) (qrk 3) X))
          -∗ Q ⟨k0_pay3 (k0_pay1 (xstg m c)), Scalar.addi 0#32 (Scalar.muli v2 8#32)⟩)
        -∗ run c (k0_part2 (F := F) xM (Memref.isWhole_whole _) tM (Memref.isWhole_whole _) oM (Memref.isWhole_whole _) qs (Memref.isWhole_whole _) qr (Memref.isWhole_whole _) ss (Memref.isWhole_whole _) sr (Memref.isWhole_whole _) cc0_scratch4 cc0_scratch5 cc0_scratch6 cc0_scratch7 c v2 v5 (word (σ (place c))) hw (SemArray.scalar (sig.barrier 0 rfl)) (k0_pay1 (xstg m c))) Q) := by
  rw [k0_part2_eq_skeleton]; unfold k0_part2_skel
  simp only [semSignalWord, semWaitWord, smemLoad, smemLoadElt, Prog.lift, Prog.bind_op, Prog.bind_ret, Prog.pure_eq_ret, run]
  iintro ⟨#HR, Hlev, Hx, ⟨%X, Hs⟩, Hq0, HO, HD0, HT0, HK1, HK6⟩ Hk
  iapply (load_in c ss (Rect.unit (s := S1x512) ![0, 0] S1x512.size inb_S1x512_S1x512_0_0) X) $$ Hs
  iintro Hs
  iapply (store_scale c X) $$ Hs
  iintro Hs
  iapply (get_x m c 0) $$ Hx
  iintro Hx
  iapply (put_code c 0 (w := codes m c 0)) $$ Hq0
  iintro Hq0
  ihave Hm := (mayWait_bar σ c) $$ Hlev
  iapply (wait_step σ m K c 0 (wpE_semWait_eq 𝒱₀ (c : Thread nD τ) none Set.univ) rfl rfl) $$ [HD0 HO HT0 Hm]
  · isplitr; · iexact HR
    isplitl [HD0]; · iexact HD0
    isplitl [HO]; · iexact HO
    isplitl [Hm]; · iexact Hm
    iexact HT0
  rw [show pay σ m c 0 = rooms (tgt σ c) from rfl]; unfold rooms
  iintro ⟨HO, HZ, HP⟩
  icases HP with ⟨Hsr, Hr0, Hr1, Hr2, Hr3⟩
  iapply (send_step σ m K c 1 6 [7, 8, 9, 10] (Fin.ext (dev2_at c _)) rfl rfl rfl rfl rfl (congrArg (fun d => has (tgt σ c) sr (scl m d)) (org_tgt σ c))) $$ [Hs Hsr HO HK1 HK6]
  · isplitr; · iexact HR
    isplitl [Hs]; · iexact Hs
    isplitl [Hsr]; · iexact Hsr
    isplitl [HO]; · iexact HO
    isplitl [HK1]; · iexact HK1
    iexact HK6
  iintro ⟨HD1, HO⟩
  unfold run; rw [wp_ret]; imodintro
  iapply Hk
  isplitl [Hx]; · iexact Hx
  isplitl [Hq0]; · iexact Hq0
  isplitl [HO]; · iexact HO
  isplitl [HD1]; · iexact HD1
  isplitl [HZ]; · iexact HZ
  isplitl [Hr0]; · iexact Hr0
  isplitl [Hr1]; · iexact Hr1
  isplitl [Hr2]; · iexact Hr2
  iexact Hr3

theorem part3_run {v2 v5 v66 : BitVec 32} {hw : k0_chk2 c (word (σ (place c)))}
    {Q : FVec F S128x512 .bf16 → sProp 𝕄} :
    iprop(records σ m K ∗ has c xM (xstg m c) ∗ has c (qsk 0) (codes m c 0) ∗ (∃ X, has c (qsk 1) X)
        ∗ (∃ X, has (tgt σ c) (qrk 0) X) ∗ (∃ X, has (tgt σ c) (qrk 1) X)
        ∗ owing c (dues σ c [7, 8, 9, 10]) ∗ tok c 2 ∗ tok (tgt σ c) 7 ∗ tok c 3 ∗ tok (tgt σ c) 8)
      ⊢ iprop(((has c xM (xstg m c) ∗ owing c (dues σ c [9, 10]) ∗ due c 2 ∗ due c 3)
          -∗ Q (k0_pay7 (xband m c 2)))
        -∗ run c (k0_part3 (F := F) xM (Memref.isWhole_whole _) tM (Memref.isWhole_whole _) oM (Memref.isWhole_whole _) qs (Memref.isWhole_whole _) qr (Memref.isWhole_whole _) ss (Memref.isWhole_whole _) sr (Memref.isWhole_whole _) cc0_scratch4 cc0_scratch5 cc0_scratch6 cc0_scratch7 c v2 v5 (word (σ (place c))) hw (k0_pay3 (k0_pay1 (xstg m c))) v66) Q) := by
  rw [k0_part3_eq_skeleton]; unfold k0_part3_skel
  simp only [semSignalWord, semWaitWord, smemLoad, smemLoadElt, Prog.lift, Prog.bind_op, Prog.bind_ret, Prog.pure_eq_ret, run]
  iintro ⟨#HR, Hx, Hq0, Hq1, Hr0, Hr1, HO, HK2, HK7, HK3, HK8⟩ Hk
  iapply (send_step σ m K c 2 7 [8, 9, 10] (Fin.ext (dev3_at c _)) rfl rfl rfl rfl rfl (congrArg (fun d => has (tgt σ c) (qrk 0) (codes m d 0)) (org_tgt σ c))) $$ [Hq0 Hr0 HO HK2 HK7]
  · isplitr; · iexact HR
    isplitl [Hq0]; · iexact Hq0
    isplitl [Hr0]; · iexact Hr0
    isplitl [HO]; · iexact HO
    isplitl [HK2]; · iexact HK2
    iexact HK7
  iintro ⟨HD2, HO⟩
  iapply (get_x m c 1) $$ Hx
  iintro Hx
  iapply (put_code c 1 (w := codes m c 1)) $$ Hq1
  iintro Hq1
  iapply (send_step σ m K c 3 8 [9, 10] (Fin.ext (dev4_at c _)) rfl rfl rfl rfl rfl (congrArg (fun d => has (tgt σ c) (qrk 1) (codes m d 1)) (org_tgt σ c))) $$ [Hq1 Hr1 HO HK3 HK8]
  · isplitr; · iexact HR
    isplitl [Hq1]; · iexact Hq1
    isplitl [Hr1]; · iexact Hr1
    isplitl [HO]; · iexact HO
    isplitl [HK3]; · iexact HK3
    iexact HK8
  iintro ⟨HD3, HO⟩
  iapply (get_x m c 2) $$ Hx
  iintro Hx
  unfold run; rw [wp_ret]; imodintro
  iapply Hk
  isplitl [Hx]; · iexact Hx
  isplitl [HO]; · iexact HO
  isplitl [HD2]; · iexact HD2
  iexact HD3

theorem part4_run {v2 v5 : BitVec 32} {hw : k0_chk2 c (word (σ (place c)))} {Q : PUnit → sProp 𝕄} :
    iprop(records σ m K ∗ has c xM (xstg m c) ∗ (∃ X, has c (qsk 2) X) ∗ (∃ X, has c (qsk 3) X)
        ∗ (∃ X, has (tgt σ c) (qrk 2) X) ∗ owing c (dues σ c [9, 10]) ∗ tok c 4 ∗ tok (tgt σ c) 9)
      ⊢ iprop(((has c xM (xstg m c) ∗ has c (qsk 3) (codes m c 3) ∗ owing c (dues σ c [10]) ∗ due c 4) -∗ Q ⟨⟩)
        -∗ run c (k0_part4 (F := F) xM (Memref.isWhole_whole _) tM (Memref.isWhole_whole _) oM (Memref.isWhole_whole _) qs (Memref.isWhole_whole _) qr (Memref.isWhole_whole _) ss (Memref.isWhole_whole _) sr (Memref.isWhole_whole _) cc0_scratch4 cc0_scratch5 cc0_scratch6 cc0_scratch7 c v2 v5 (word (σ (place c))) hw (k0_pay3 (k0_pay1 (xstg m c)))
            (k0_pay7 (xband m c 2))) Q) := by
  rw [k0_part4_eq_skeleton]; unfold k0_part4_skel
  simp only [semSignalWord, semWaitWord, smemLoad, smemLoadElt, Prog.lift, Prog.bind_op, Prog.bind_ret, Prog.pure_eq_ret, run]
  iintro ⟨#HR, Hx, Hq2, Hq3, Hr2, HO, HK4, HK9⟩ Hk
  iapply (put_code c 2 (w := codes m c 2)) $$ Hq2
  iintro Hq2
  iapply (send_step σ m K c 4 9 [10] (Fin.ext (dev5_at c _)) rfl rfl rfl rfl rfl (congrArg (fun d => has (tgt σ c) (qrk 2) (codes m d 2)) (org_tgt σ c))) $$ [Hq2 Hr2 HO HK4 HK9]
  · isplitr; · iexact HR
    isplitl [Hq2]; · iexact Hq2
    isplitl [Hr2]; · iexact Hr2
    isplitl [HO]; · iexact HO
    isplitl [HK4]; · iexact HK4
    iexact HK9
  iintro ⟨HD4, HO⟩
  iapply (get_x m c 3) $$ Hx
  iintro Hx
  iapply (put_code c 3 (w := codes m c 3)) $$ Hq3
  iintro Hq3
  unfold run; rw [wp_ret]; imodintro
  iapply Hk
  isplitl [Hx]; · iexact Hx
  isplitl [Hq3]; · iexact Hq3
  isplitl [HO]; · iexact HO
  iexact HD4

end Cert.Permute

end
-- ==== Proof.Part3.lean ====
/-
# The body's last parts: receive and multiply back

Parts five to seven and the tail: the last transfer, the waits for what the source sends, the result bands, and the waits
for one's own transfers.
-/
module

public import proofs.«01_k».proof.Proof.Part2

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Equiv.Perm (Fin 4))
variable (m : (ℓ : Loc nD τ sig) → Buf (Elt F) ℓ)
variable (K : Dev nD × Fin 11 → ℕ) (c : Dev nD)

/-- Reading one element of the scale row that came in. -/
theorem get_scale {α : Type} {hl : sr.view.LoadsAt (Rect.unit (s := S1x512) ![0, 0] S1x1.size inb_S1x512_S1x1_0_0).toLoadRect}
    (X : S1x512.Idx → Elt F .f32) {p : (S1x1.Idx → Elt F .f32) → Prog (TpuEff nD τ sig (Elt F) Λ₀ .tc) α} {Q : α → sProp 𝕄} :
    has c sr X
      ⊢ iprop((has c sr X -∗ run c (p fun j => X ((Rect.unit (s := S1x512) ![0, 0] S1x1.size inb_S1x512_S1x1_0_0).emb j)) Q)
        -∗ run c (.op (.load sr (Rect.unit (s := S1x512) ![0, 0] S1x1.size inb_S1x512_S1x1_0_0).toLoadRect hl) p) Q) :=
  load_in c sr (Rect.unit (s := S1x512) ![0, 0] S1x1.size inb_S1x512_S1x1_0_0) X

theorem pay11_eq (s : S1x1.Idx → Elt F .f32) (x : S128x512.Idx → Elt F .i8) : k0_pay11 s x = k0_pay12 (k0_pay10 s) x := rfl

theorem part5_run {v2 v5 : BitVec 32} {hw : k0_chk2 c (word (σ (place c)))} {Q : (Σ' (v148 : F .bf16), FVec F S1x128x512 .bf16) → sProp 𝕄} :
    iprop(records σ m K ∗ has c (qsk 3) (codes m c 3) ∗ (∃ X, has (tgt σ c) (qrk 3) X) ∗ owing c (dues σ c [10])
        ∗ tok c 5 ∗ tok (tgt σ c) 10 ∗ (∃ X, has c (ok 0) X) ∗ due c 6 ∗ turn c 6 ∗ due c 7 ∗ turn c 7)
      ⊢ iprop(((owing c 0 ∗ due c 5 ∗ semVal (cell c 6) 0 ∗ semVal (cell c 7) 0 ∗ has c sr (scl m (org σ c))
            ∗ has c (qrk 0) (codes m (org σ c) 0) ∗ (∃ X, has c (ok 0) X))
          -∗ Q ⟨scaleOf m (org σ c), outBand m (org σ c) 0⟩)
        -∗ run c (k0_part5 (F := F) xM (Memref.isWhole_whole _) tM (Memref.isWhole_whole _) oM (Memref.isWhole_whole _) qs (Memref.isWhole_whole _) qr (Memref.isWhole_whole _) ss (Memref.isWhole_whole _) sr (Memref.isWhole_whole _) cc0_scratch4 cc0_scratch5 cc0_scratch6 cc0_scratch7 c v2 v5 (word (σ (place c))) hw) Q) := by
  rw [k0_part5_eq_skeleton]; unfold k0_part5_skel
  simp only [semSignalWord, semWaitWord, smemLoad, smemLoadElt, Prog.lift, Prog.bind_op, Prog.bind_ret, Prog.pure_eq_ret, run]
  iintro ⟨#HR, Hq3, Hr3, HO, HK5, HK10, ⟨%X, Ho0⟩, HD6, HT6, HD7, HT7⟩ Hk
  iapply (send_step σ m K c 5 10 [] (Fin.ext (dev6_at c _)) rfl rfl rfl rfl rfl (congrArg (fun d => has (tgt σ c) (qrk 3) (codes m d 3)) (org_tgt σ c))) $$ [Hq3 Hr3 HO HK5 HK10]
  · isplitr; · iexact HR
    isplitl [Hq3]; · iexact Hq3
    isplitl [Hr3]; · iexact Hr3
    isplitl [HO]; · iexact HO
    isplitl [HK5]; · iexact HK5
    iexact HK10
  iintro ⟨HD5, HO⟩
  iapply (wait_step₀ σ m K c 6 (wpE_waitDma2_eq 𝒱₀ (c : Thread nD τ) none Set.univ) rfl rfl) $$ [HD6 HO HT6]
  · isplitr; · iexact HR
    isplitl [HD6]; · iexact HD6
    isplitl [HO]; · iexact HO
    iexact HT6
  rw [show pay σ m c 6 = has c sr (scl m (org σ c)) from rfl]
  iintro ⟨HO, HZ6, HP6⟩
  iapply (get_scale c (scl m (org σ c))) $$ HP6
  iintro HP6
  iapply (wait_step₀ σ m K c 7 (wpE_waitDma2_eq 𝒱₀ (c : Thread nD τ) none Set.univ) rfl rfl) $$ [HD7 HO HT7]
  · isplitr; · iexact HR
    isplitl [HD7]; · iexact HD7
    isplitl [HO]; · iexact HO
    iexact HT7
  rw [show pay σ m c 7 = has c (qrk 0) (codes m (org σ c) 0) from rfl]
  iintro ⟨HO, HZ7, HP7⟩
  iapply (get_code c 0) $$ HP7
  iintro HP7
  iapply (load_part c oM (slab 0) (fun _ => rfl) X) $$ Ho0
  iintro Ho0
  rw [pay11_eq, show (k0_pay10 fun j => scl m (org σ c) ((Rect.unit (s := S1x512) ![0, 0] S1x1.size inb_S1x512_S1x1_0_0).emb j)) = scaleOf m (org σ c) from rfl,
    show k0_pay12 (scaleOf m (org σ c)) (codes m (org σ c) 0) = outBand m (org σ c) 0 from rfl]
  unfold run; rw [wp_ret]; imodintro
  iapply Hk
  isplitl [HO]; · iexact HO
  isplitl [HD5]; · iexact HD5
  isplitl [HZ6]; · iexact HZ6
  isplitl [HZ7]; · iexact HZ7
  isplitl [HP6]; · iexact HP6
  isplitl [HP7]; · iexact HP7
  iexists X
  iexact Ho0

theorem part6_run {v2 v5 : BitVec 32} {v10 : Elt F .i32} {Q : FVec F S128x512 .bf16 → sProp 𝕄} :
    iprop(records σ m K ∗ owing c 0 ∗ (∃ X, has c (ok 0) X) ∗ (∃ X, has c (ok 1) X) ∗ due c 8 ∗ turn c 8 ∗ due c 9 ∗ turn c 9)
      ⊢ iprop(((owing c 0 ∗ semVal (cell c 8) 0 ∗ semVal (cell c 9) 0 ∗ has c (qrk 1) (codes m (org σ c) 1)
            ∗ has c (qrk 2) (codes m (org σ c) 2) ∗ has c (ok 0) (outBand m (org σ c) 0) ∗ has c (ok 1) (outBand m (org σ c) 1))
          -∗ Q (k0_pay13 (codes m (org σ c) 2)))
        -∗ run c (k0_part6 (F := F) xM (Memref.isWhole_whole _) tM (Memref.isWhole_whole _) oM (Memref.isWhole_whole _) qs (Memref.isWhole_whole _) qr (Memref.isWhole_whole _) ss (Memref.isWhole_whole _) sr (Memref.isWhole_whole _) cc0_scratch4 cc0_scratch5 cc0_scratch6 cc0_scratch7 v2 v5 v10 (scaleOf m (org σ c)) (outBand m (org σ c) 0)) Q) := by
  rw [k0_part6_eq_skeleton]; unfold k0_part6_skel
  simp only [semSignalWord, semWaitWord, smemLoad, smemLoadElt, Prog.lift, Prog.bind_op, Prog.bind_ret, Prog.pure_eq_ret, run]
  iintro ⟨#HR, HO, ⟨%X, Ho0⟩, Ho1, HD8, HT8, HD9, HT9⟩ Hk
  iapply (store_part c oM (slab 0) (fun _ => rfl) X) $$ Ho0
  iintro Ho0
  iapply (wait_step₀ σ m K c 8 (wpE_waitDma2_eq 𝒱₀ (c : Thread nD τ) none Set.univ) rfl rfl) $$ [HD8 HO HT8]
  · isplitr; · iexact HR
    isplitl [HD8]; · iexact HD8
    isplitl [HO]; · iexact HO
    iexact HT8
  rw [show pay σ m c 8 = has c (qrk 1) (codes m (org σ c) 1) from rfl]
  iintro ⟨HO, HZ8, HP8⟩
  iapply (get_code c 1) $$ HP8
  iintro HP8
  iapply (put_out c 1 (w := outBand m (org σ c) 1)) $$ Ho1
  iintro Ho1
  iapply (wait_step₀ σ m K c 9 (wpE_waitDma2_eq 𝒱₀ (c : Thread nD τ) none Set.univ) rfl rfl) $$ [HD9 HO HT9]
  · isplitr; · iexact HR
    isplitl [HD9]; · iexact HD9
    isplitl [HO]; · iexact HO
    iexact HT9
  rw [show pay σ m c 9 = has c (qrk 2) (codes m (org σ c) 2) from rfl]
  iintro ⟨HO, HZ9, HP9⟩
  iapply (get_code c 2) $$ HP9
  iintro HP9
  unfold run; rw [wp_ret]; imodintro
  iapply Hk
  isplitl [HO]; · iexact HO
  isplitl [HZ8]; · iexact HZ8
  isplitl [HZ9]; · iexact HZ9
  isplitl [HP8]; · iexact HP8
  isplitl [HP9]; · iexact HP9
  isplitl [Ho0]; · iexact Ho0
  iexact Ho1

/-- A transfer's credit does not depend on the buffer. -/
theorem credit_ss : ss.view.dmaCredit = amt 1 := by
  show sig.dmaCredit _ _ _ _ _ = sig.dmaCredit _ _ _ _ _
  unfold sig
  rfl
theorem credit_qs (k : Fin 4) : (qsk k).view.dmaCredit = (qrk k).view.dmaCredit := by
  show sig.dmaCredit _ _ _ _ _ = sig.dmaCredit _ _ _ _ _
  unfold sig
  rfl

theorem pay14_eq (x : S128x512.Idx → Elt F .i8) (v : F .bf16) : k0_pay14 v (k0_pay13 x) = k0_pay12 v x := rfl

theorem part7_run {v2 v5 : BitVec 32} {v10 : Elt F .i32} {Q : PUnit → sProp 𝕄} :
    iprop(records σ m K ∗ owing c 0 ∗ (∃ X, has c (ok 2) X) ∗ (∃ X, has c (ok 3) X)
        ∗ due c 10 ∗ turn c 10 ∗ due c 1 ∗ turn c 1 ∗ due c 2 ∗ turn c 2)
      ⊢ iprop(((owing c 0 ∗ semVal (cell c 10) 0 ∗ semVal (cell c 1) 0 ∗ semVal (cell c 2) 0 ∗ has c (qrk 3) (codes m (org σ c) 3)
            ∗ has c ss (scl m c) ∗ has c (qsk 0) (codes m c 0)
            ∗ has c (ok 2) (outBand m (org σ c) 2) ∗ has c (ok 3) (outBand m (org σ c) 3))
          -∗ Q ⟨⟩)
        -∗ run c (k0_part7 (F := F) xM (Memref.isWhole_whole _) tM (Memref.isWhole_whole _) oM (Memref.isWhole_whole _) qs (Memref.isWhole_whole _) qr (Memref.isWhole_whole _) ss (Memref.isWhole_whole _) sr (Memref.isWhole_whole _) cc0_scratch4 cc0_scratch5 cc0_scratch6 cc0_scratch7 v2 v5 v10 (scaleOf m (org σ c)) (k0_pay13 (codes m (org σ c) 2))) Q) := by
  rw [k0_part7_eq_skeleton]; unfold k0_part7_skel
  simp only [semSignalWord, semWaitWord, smemLoad, smemLoadElt, Prog.lift, Prog.bind_op, Prog.bind_ret, Prog.pure_eq_ret, run]
  iintro ⟨#HR, HO, Ho2, Ho3, HD10, HT10, HD1, HT1, HD2, HT2⟩ Hk
  rw [pay14_eq, show k0_pay12 (scaleOf m (org σ c)) (codes m (org σ c) 2) = outBand m (org σ c) 2 from rfl]
  iapply (put_out c 2 (w := outBand m (org σ c) 2)) $$ Ho2
  iintro Ho2
  iapply (wait_step₀ σ m K c 10 (wpE_waitDma2_eq 𝒱₀ (c : Thread nD τ) none Set.univ) rfl rfl) $$ [HD10 HO HT10]
  · isplitr; · iexact HR
    isplitl [HD10]; · iexact HD10
    isplitl [HO]; · iexact HO
    iexact HT10
  rw [show pay σ m c 10 = has c (qrk 3) (codes m (org σ c) 3) from rfl]
  iintro ⟨HO, HZ10, HP10⟩
  iapply (get_code c 3) $$ HP10
  iintro HP10
  iapply (put_out c 3 (w := outBand m (org σ c) 3)) $$ Ho3
  iintro Ho3
  iapply (wait_step₀ σ m K c 1 (wpE_waitDma2_eq 𝒱₀ (c : Thread nD τ) none Set.univ) rfl credit_ss) $$ [HD1 HO HT1]
  · isplitr; · iexact HR
    isplitl [HD1]; · iexact HD1
    isplitl [HO]; · iexact HO
    iexact HT1
  rw [show pay σ m c 1 = has c ss (scl m c) from rfl]
  iintro ⟨HO, HZ1, HP1⟩
  iapply (wait_step₀ σ m K c 2 (wpE_waitDma2_eq 𝒱₀ (c : Thread nD τ) none Set.univ) rfl (credit_qs 0)) $$ [HD2 HO HT2]
  · isplitr; · iexact HR
    isplitl [HD2]; · iexact HD2
    isplitl [HO]; · iexact HO
    iexact HT2
  rw [show pay σ m c 2 = has c (qsk 0) (codes m c 0) from rfl]
  iintro ⟨HO, HZ2, HP2⟩
  unfold run; rw [wp_ret]; imodintro
  iapply Hk
  isplitl [HO]; · iexact HO
  isplitl [HZ10]; · iexact HZ10
  isplitl [HZ1]; · iexact HZ1
  isplitl [HZ2]; · iexact HZ2
  isplitl [HP10]; · iexact HP10
  isplitl [HP1]; · iexact HP1
  isplitl [HP2]; · iexact HP2
  isplitl [Ho2]; · iexact Ho2
  iexact Ho3

end Cert.Permute

end
-- ==== Proof.Body.lean ====
/-
# The whole body on one device

The code buffers and the result block are split into bands, the parts run one after the other, and the bands are put
together again.
-/
module

public import proofs.«01_k».proof.Proof.Part3
public import Idealize.ShloMosaic.Lib.Memref
public import Idealize.ShloMosaic.Lib.MemrefSat

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Equiv.Perm (Fin 4))
variable (m : (ℓ : Loc nD τ sig) → Buf (Elt F) ℓ)
variable (K : Dev nD × Fin 11 → ℕ) (c : Dev nD)

/-! ## Splitting and joining -/

section Bands

variable {sp : Space} {sh : Shape} {e : EltTy} (b : Memref sig .tc sp sh e) (r : Fin 4 → Rect sh) (hr : ∀ t a, (r t).stride a = 1)
  (hd : ∀ t t', t ≠ t' → Disjoint (r t).set (r t').set)
  (hcov : (Finset.univ : Finset (Fin 4)).biUnion (fun t => (r t).set) = Finset.univ)
include hd hcov

theorem split_four : iprop(∃ X, has (F := F) c b X)
    ⊢ iprop((∃ X, has c (b.slice (r 0) (hr 0)) X) ∗ (∃ X, has c (b.slice (r 1) (hr 1)) X) ∗ (∃ X, has c (b.slice (r 2) (hr 2)) X)
        ∗ (∃ X, has c (b.slice (r 3) (hr 3)) X)) := by
  iintro ⟨%X, H⟩
  have h := owns_rects (Ix := Unit) (Name := ℕ) (U := UU) (Lvl := ℕ) (c : Thread nD τ) b fullShare r hr hd hcov X
  rw [bigSep_four] at h
  ihave H := h $$ H
  icases H with ⟨H0, H1, H2, H3⟩
  isplitl [H0]; · iexists _; iexact H0
  isplitl [H1]; · iexists _; iexact H1
  isplitl [H2]; · iexists _; iexact H2
  iexists _; iexact H3

theorem join_four (Y : (t : Fin 4) → (r t).shape.Idx → Elt F e) :
    iprop(has c (b.slice (r 0) (hr 0)) (Y 0) ∗ has c (b.slice (r 1) (hr 1)) (Y 1) ∗ has c (b.slice (r 2) (hr 2)) (Y 2)
        ∗ has c (b.slice (r 3) (hr 3)) (Y 3))
      ⊢ has c b (Rect.glue r hcov Y) := by
  have hg (t : Fin 4) : (fun j => Rect.glue r hcov Y ((r t).emb j)) = Y t := funext fun y => Rect.glue_emb r hcov hd Y t y
  have h := owns_of_rects (Ix := Unit) (Name := ℕ) (U := UU) (Lvl := ℕ) (c : Thread nD τ) b fullShare r hr hd hcov (Rect.glue r hcov Y)
  simp only [hg] at h
  rw [bigSep_four] at h
  exact h

end Bands

/-- The result block of device `c`: the four bands computed from what its source sent. -/
def outAt : S1x512x512.Idx → Elt F .bf16 := Rect.glue slab slab_cover fun k => outBand m (org σ c) k

/-! ## The body -/

/-- The rights to wait for all eleven semaphores; -/
def turns : sProp 𝕄 :=
  iprop(turn c 0 ∗ turn c 1 ∗ turn c 2 ∗ turn c 3 ∗ turn c 4 ∗ turn c 5 ∗ turn c 6 ∗ turn c 7 ∗ turn c 8 ∗ turn c 9 ∗ turn c 10)
/-- the tokens of the duties `c` pays; -/
def payToks : sProp 𝕄 :=
  iprop(tok (org σ c) 0 ∗ tok c 1 ∗ tok c 2 ∗ tok c 3 ∗ tok c 4 ∗ tok c 5
    ∗ tok (tgt σ c) 6 ∗ tok (tgt σ c) 7 ∗ tok (tgt σ c) 8 ∗ tok (tgt σ c) 9 ∗ tok (tgt σ c) 10)
/-- the credits it has from the launch; -/
def credits : sProp 𝕄 := iprop(due c 0 ∗ due c 6 ∗ due c 7 ∗ due c 8 ∗ due c 9 ∗ due c 10)
/-- its scratch buffers, whatever they hold; -/
def scratch : sProp 𝕄 := iprop((∃ X, has (F := F) c qs X) ∗ (∃ X, has (F := F) c qr X) ∗ (∃ X, has (F := F) c ss X) ∗ (∃ X, has (F := F) c sr X))
/-- the semaphores at zero. -/
def zeros : sProp 𝕄 :=
  iprop(semVal (cell c 0) 0 ∗ semVal (cell c 1) 0 ∗ semVal (cell c 2) 0 ∗ semVal (cell c 3) 0 ∗ semVal (cell c 4) 0 ∗ semVal (cell c 5) 0
    ∗ semVal (cell c 6) 0 ∗ semVal (cell c 7) 0 ∗ semVal (cell c 8) 0 ∗ semVal (cell c 9) 0 ∗ semVal (cell c 10) 0)

theorem run_bind {α β : Type} (p : Prog (TpuEff nD τ sig (Elt F) Λ₀ .tc) α) (k : α → Prog (TpuEff nD τ sig (Elt F) Λ₀ .tc) β) (Q : β → sProp 𝕄) :
    run c (p >>= k) Q = run c p (fun a => run c (k a) Q) := wp_bind ..

theorem body_run {Q : PUnit → sProp 𝕄} :
    iprop(records σ m K ∗ (levAts L lv : sProp 𝕄) ∗ has c xM (xstg m c) ∗ has c tM (tab σ) ∗ (∃ X, has c oM X) ∗ scratch c
        ∗ owing c (O₀ σ c) ∗ turns c ∗ payToks σ c ∗ credits c)
      ⊢ iprop(((has c xM (xstg m c) ∗ has c tM (tab σ) ∗ has c oM (outAt σ m c) ∗ scratch c ∗ owing c 0 ∗ zeros c) -∗ Q ⟨⟩)
        -∗ run c (cc0_body (F := F) xM (Memref.isWhole_whole _) tM (Memref.isWhole_whole _) oM (Memref.isWhole_whole _) qs (Memref.isWhole_whole _) qr (Memref.isWhole_whole _) ss (Memref.isWhole_whole _) sr (Memref.isWhole_whole _) cc0_scratch4 cc0_scratch5 cc0_scratch6 cc0_scratch7) Q) := by
  rw [cc0_body_eq_skeleton]; unfold cc0_body_skel scratch turns payToks credits
  simp only [run_bind]
  iintro ⟨#HR, Hlev, Hx, Ht, Ho, ⟨Hqs, Hqr, Hss, Hsr⟩, HO, ⟨HT0, HT1, HT2, HT3, HT4, HT5, HT6, HT7, HT8, HT9, HT10⟩,
    ⟨HK0, HK1, HK2, HK3, HK4, HK5, HK6, HK7, HK8, HK9, HK10⟩, ⟨HD0, HD6, HD7, HD8, HD9, HD10⟩⟩ Hk
  ihave Hqs := (split_four c qs band (fun _ _ => rfl) band_disjoint band_cover) $$ Hqs
  icases Hqs with ⟨Hq0, Hq1, Hq2, Hq3⟩
  ihave Hqr := (split_four c qr band (fun _ _ => rfl) band_disjoint band_cover) $$ Hqr
  ihave Ho := (split_four c oM slab (fun _ _ => rfl) slab_disjoint slab_cover) $$ Ho
  icases Ho with ⟨Ho0, Ho1, Ho2, Ho3⟩
  iapply (part1_run σ m K c) $$ [Hx Ht Hqr Hsr HO HK0]
  · isplitr; · iexact HR
    isplitl [Hx]; · iexact Hx
    isplitl [Ht]; · iexact Ht
    isplitl [Hqr Hsr]
    · unfold rooms
      isplitl [Hsr]; · iexact Hsr
      iexact Hqr
    isplitl [HO]; · iexact HO
    iexact HK0
  iintro ⟨Hx, Ht, HO⟩
  iapply (part2_run σ m K c) $$ [Hlev Hx Hss Hq0 HO HD0 HT0 HK1 HK6]
  · isplitr; · iexact HR
    isplitl [Hlev]; · iexact Hlev
    isplitl [Hx]; · iexact Hx
    isplitl [Hss]; · iexact Hss
    isplitl [Hq0]; · iexact Hq0
    isplitl [HO]; · iexact HO
    isplitl [HD0]; · iexact HD0
    isplitl [HT0]; · iexact HT0
    isplitl [HK1]; · iexact HK1
    iexact HK6
  iintro ⟨Hx, Hq0, HO, HD1, HZ0, Hr0, Hr1, Hr2, Hr3⟩
  iapply (part3_run σ m K c) $$ [Hx Hq0 Hq1 Hr0 Hr1 HO HK2 HK7 HK3 HK8]
  · isplitr; · iexact HR
    isplitl [Hx]; · iexact Hx
    isplitl [Hq0]; · iexact Hq0
    isplitl [Hq1]; · iexact Hq1
    isplitl [Hr0]; · iexact Hr0
    isplitl [Hr1]; · iexact Hr1
    isplitl [HO]; · iexact HO
    isplitl [HK2]; · iexact HK2
    isplitl [HK7]; · iexact HK7
    isplitl [HK3]; · iexact HK3
    iexact HK8
  iintro ⟨Hx, HO, HD2, HD3⟩
  iapply (part4_run σ m K c) $$ [Hx Hq2 Hq3 Hr2 HO HK4 HK9]
  · isplitr; · iexact HR
    isplitl [Hx]; · iexact Hx
    isplitl [Hq2]; · iexact Hq2
    isplitl [Hq3]; · iexact Hq3
    isplitl [Hr2]; · iexact Hr2
    isplitl [HO]; · iexact HO
    isplitl [HK4]; · iexact HK4
    iexact HK9
  iintro ⟨Hx, Hq3, HO, HD4⟩
  iapply (part5_run σ m K c) $$ [Hq3 Hr3 HO HK5 HK10 Ho0 HD6 HT6 HD7 HT7]
  · isplitr; · iexact HR
    isplitl [Hq3]; · iexact Hq3
    isplitl [Hr3]; · iexact Hr3
    isplitl [HO]; · iexact HO
    isplitl [HK5]; · iexact HK5
    isplitl [HK10]; · iexact HK10
    isplitl [Ho0]; · iexact Ho0
    isplitl [HD6]; · iexact HD6
    isplitl [HT6]; · iexact HT6
    isplitl [HD7]; · iexact HD7
    iexact HT7
  iintro ⟨HO, HD5, HZ6, HZ7, HP6, HP7, Ho0⟩
  iapply (part6_run σ m K c) $$ [HO Ho0 Ho1 HD8 HT8 HD9 HT9]
  · isplitr; · iexact HR
    isplitl [HO]; · iexact HO
    isplitl [Ho0]; · iexact Ho0
    isplitl [Ho1]; · iexact Ho1
    isplitl [HD8]; · iexact HD8
    isplitl [HT8]; · iexact HT8
    isplitl [HD9]; · iexact HD9
    iexact HT9
  iintro ⟨HO, HZ8, HZ9, HP8, HP9, Ho0, Ho1⟩
  iapply (part7_run σ m K c) $$ [HO Ho2 Ho3 HD10 HT10 HD1 HT1 HD2 HT2]
  · isplitr; · iexact HR
    isplitl [HO]; · iexact HO
    isplitl [Ho2]; · iexact Ho2
    isplitl [Ho3]; · iexact Ho3
    isplitl [HD10]; · iexact HD10
    isplitl [HT10]; · iexact HT10
    isplitl [HD1]; · iexact HD1
    isplitl [HT1]; · iexact HT1
    isplitl [HD2]; · iexact HD2
    iexact HT2
  iintro ⟨HO, HZ10, HZ1, HZ2, HP10, HP1, HP2, Ho2, Ho3⟩
  simp only [← run_bind, Prog.lift, Prog.bind_op, Prog.bind_ret, Prog.pure_eq_ret]
  iapply (wait_step₀ σ m K c 3 (wpE_waitDma2_eq 𝒱₀ (c : Thread nD τ) none Set.univ) rfl (credit_qs 1)) $$ [HD3 HO HT3]
  · isplitr; · iexact HR
    isplitl [HD3]; · iexact HD3
    isplitl [HO]; · iexact HO
    iexact HT3
  rw [show pay σ m c 3 = has c (qsk 1) (codes m c 1) from rfl]
  iintro ⟨HO, HZ3, HP3⟩
  iapply (wait_step₀ σ m K c 4 (wpE_waitDma2_eq 𝒱₀ (c : Thread nD τ) none Set.univ) rfl (credit_qs 2)) $$ [HD4 HO HT4]
  · isplitr; · iexact HR
    isplitl [HD4]; · iexact HD4
    isplitl [HO]; · iexact HO
    iexact HT4
  rw [show pay σ m c 4 = has c (qsk 2) (codes m c 2) from rfl]
  iintro ⟨HO, HZ4, HP4⟩
  iapply (wait_step₀ σ m K c 5 (wpE_waitDma2_eq 𝒱₀ (c : Thread nD τ) none Set.univ) rfl (credit_qs 3)) $$ [HD5 HO HT5]
  · isplitr; · iexact HR
    isplitl [HD5]; · iexact HD5
    isplitl [HO]; · iexact HO
    iexact HT5
  rw [show pay σ m c 5 = has c (qsk 3) (codes m c 3) from rfl]
  iintro ⟨HO, HZ5, HP5⟩
  unfold run; rw [wp_ret]; imodintro
  iapply Hk
  isplitl [Hx]; · iexact Hx
  isplitl [Ht]; · iexact Ht
  isplitl [Ho0 Ho1 Ho2 Ho3]
  · unfold outAt
    iapply (join_four c oM slab (fun _ _ => rfl) slab_disjoint slab_cover fun k => outBand m (org σ c) k)
    isplitl [Ho0]; · iexact Ho0
    isplitl [Ho1]; · iexact Ho1
    isplitl [Ho2]; · iexact Ho2
    iexact Ho3
  isplitl [HP2 HP3 HP4 HP5 HP7 HP8 HP9 HP10 HP1 HP6]
  · isplitl [HP2 HP3 HP4 HP5]
    · iexists _
      iapply (join_four c qs band (fun _ _ => rfl) band_disjoint band_cover fun k => codes m c k)
      isplitl [HP2]; · iexact HP2
      isplitl [HP3]; · iexact HP3
      isplitl [HP4]; · iexact HP4
      iexact HP5
    isplitl [HP7 HP8 HP9 HP10]
    · iexists _
      iapply (join_four c qr band (fun _ _ => rfl) band_disjoint band_cover fun k => codes m (org σ c) k)
      isplitl [HP7]; · iexact HP7
      isplitl [HP8]; · iexact HP8
      isplitl [HP9]; · iexact HP9
      iexact HP10
    isplitl [HP1]; · iexists _; iexact HP1
    iexists _; iexact HP6
  isplitl [HO]; · iexact HO
  unfold zeros
  isplitl [HZ0]; · iexact HZ0
  isplitl [HZ1]; · iexact HZ1
  isplitl [HZ2]; · iexact HZ2
  isplitl [HZ3]; · iexact HZ3
  isplitl [HZ4]; · iexact HZ4
  isplitl [HZ5]; · iexact HZ5
  isplitl [HZ6]; · iexact HZ6
  isplitl [HZ7]; · iexact HZ7
  isplitl [HZ8]; · iexact HZ8
  isplitl [HZ9]; · iexact HZ9
  iexact HZ10

end Cert.Permute

end
-- ==== Proof.Launch.lean ====
/-
# The launch

All sixteen devices start with their semaphores at zero and the duty tokens of those semaphores; the tokens are dealt to the
devices that pay them, and the run of every device follows from the run of the body.
-/
module

public import proofs.«01_k».proof.Proof.Body
public import Idealize.ShloMosaic.Lib.Pipeline.CollectiveSegs

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (σ : Equiv.Perm (Fin 4))
variable (m : (ℓ : Loc nD τ sig) → Buf (Elt F) ℓ) (ρ : Dev nD → PrngReg)

/-! ## What a device's body starts from and ends with -/

/-- Its share of the protocol, at some names of the invariants; the levels; its credits. -/
def dealt (c : Dev nD) : sProp 𝕄 := iprop(∃ K, records σ m K ∗ turns c ∗ payToks σ c)
def start (c : Dev nD) : sProp 𝕄 := iprop(dealt σ m c ∗ credits c ∗ levAts L lv)

def Φ₀ (c : Dev nD) : sProp 𝕄 := iprop(start σ m c ∗ scratch c)
def Φ₁ (c : Dev nD) : sProp 𝕄 := iprop(scratch (F := F) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => tabstg m c
    | ⟨2, _⟩ => outAt σ m c
  Φ t := match t with
    | ⟨0, _⟩ => Φ₀ σ m c
    | ⟨_ + 1, _⟩ => Φ₁ c
  q _ := fullShare
  owed t := match t with
    | ⟨0, _⟩ => O₀ σ c
    | ⟨_ + 1, _⟩ => 0

abbrev t₀ : Fin cfg0.N := t0_0

theorem bigSep_win (Φ : Fin cfg0.W → sProp 𝕄) : bigSep Finset.univ Φ = iprop(Φ (0 : Fin 3) ∗ Φ (1 : Fin 3) ∗ Φ (2 : Fin 3)) := bigSep_W0 Φ

def bodyPre (c : Dev nD) : sProp 𝕄 :=
  iprop(Φ₀ σ m c ∗ (dats σ m ρ 0 c).owesAt () t₀.castSucc
    ∗ (∃ d, has c xM ((dats σ m ρ 0 c).before (0 : Fin 3) t₀ d))
    ∗ (∃ d, has c tM ((dats σ m ρ 0 c).before (1 : Fin 3) t₀ d))
    ∗ (∃ d, has c oM ((dats σ m ρ 0 c).before (2 : Fin 3) t₀ d)))

def bodyPost (c : Dev nD) : sProp 𝕄 :=
  iprop(Φ₁ c ∗ (dats σ m ρ 0 c).owesAt () t₀.succ ∗ has c xM (xstg m c) ∗ has c tM (tabstg m c) ∗ has c oM (outAt σ m c))

variable (hpi : ∀ c, tabstg m c = tab σ)
include hpi

theorem body_sound (c : Dev nD) : bodyPre σ m ρ c ⊢ run c (cc0_body (F := F) xM (Memref.isWhole_whole _) tM (Memref.isWhole_whole _) oM (Memref.isWhole_whole _) qs (Memref.isWhole_whole _) qr (Memref.isWhole_whole _) ss (Memref.isWhole_whole _) sr (Memref.isWhole_whole _) cc0_scratch4 cc0_scratch5 cc0_scratch6 cc0_scratch7) (fun _ => bodyPost σ m ρ c) := by
  unfold bodyPre Φ₀ start dealt Dat.owesAt Pipeline.owesWithin
  iintro ⟨⟨⟨⟨%K, #HR, Hturns, Htoks⟩, Hcr, Hlev⟩, Hscr⟩, ⟨%W, %hW, HO⟩, ⟨%d0, Hx⟩, ⟨%d1, Ht⟩, ⟨%d2, Ho⟩⟩
  have hx : (dats σ m ρ 0 c).before (0 : Fin 3) t₀ d0 = xstg m c := by unfold Dat.before; rw [if_pos (fetch0_0 t₀)]; rfl
  have ht : (dats σ m ρ 0 c).before (1 : Fin 3) t₀ d1 = tabstg m c := by unfold Dat.before; rw [if_pos (fetch0_1 t₀)]; rfl
  rw [hx, ht, hpi c, show (dats σ m ρ 0 c).owed t₀.castSucc = O₀ σ c from rfl]
  iapply (body_run σ m K c) $$ [Hturns Htoks Hcr Hlev Hscr HO Hx Ht Ho]
  · isplitr; · iexact HR
    isplitl [Hlev]; · iexact Hlev
    isplitl [Hx]; · iexact Hx
    isplitl [Ht]; · iexact Ht
    isplitl [Ho]; · iexists _; iexact Ho
    isplitl [Hscr]; · iexact Hscr
    isplitl [HO]; · unfold owing; iexists W; iexact HO
    isplitl [Hturns]; · iexact Hturns
    isplitl [Htoks]; · iexact Htoks
    iexact Hcr
  iintro ⟨Hx, Ht, Ho, Hscr, HO, Hz⟩
  unfold bodyPost Φ₁ Dat.owesAt Pipeline.owesWithin owing
  icases HO with ⟨%W', HO⟩
  rw [show (dats σ m ρ 0 c).owed t₀.succ = 0 from rfl, hpi c]
  isplitl [Hscr Hz]
  · isplitl [Hscr]; · iexact Hscr
    iexact Hz
  isplitl [HO]
  · iexists W'
    isplitr; · ipureintro; exact fun _ _ => Or.inl trivial
    iexact HO
  isplitl [Hx]; · iexact Hx
  isplitl [Ht]; · iexact Ht
  iexact Ho

theorem body_obligation (c : Dev nD) : BodyObligation (dats (F := F) σ m ρ 0 c) (defs₀ (F := F)) 𝒱₀ () Set.univ := fun t => by
  rw [fin_N0 t, bigSep_win, bigSep_win]
  exact body_sound σ m ρ hpi c

omit hpi

/-! ## The semaphores at launch -/

/-- The ten semaphores the kernel allocates, in the order of `csem`. -/
abbrev osem : Fin 10 → SemLoc sig := fun i => csem ⟨i.val + 1, by omega⟩

theorem ownSemFacts : Pipeline.OwnSemFacts cfg0.spec osem := by decide

theorem share_eq (c : Dev nD) (w : Fin cfg0.W) : (dats σ m ρ 0 c).share w = fullShare := by unfold Dat.share; split <;> rfl

abbrev pcell (ci : Dev nD × Fin 11) : GSem nD τ sig := cell ci.1 ci.2

theorem cell_eq {a b : Dev nD} {i j : Fin 11} (h : cell a i = cell b j) : a = b ∧ i = j :=
  ⟨congrArg (fun g : GSem nD τ sig => g.1.1) h, csem_injective (congrArg Prod.snd h)⟩

theorem pcell_injective : Function.Injective pcell := fun a b h => Prod.ext (cell_eq h).1 (cell_eq h).2

def ringCells : Finset (GSem nD τ sig) := Finset.univ.map ⟨pcell, pcell_injective⟩

theorem ptok_injective : Function.Injective (fun ci : Dev nD × Fin 11 => ((pcell ci, 0, ()) : GSem nD τ sig × ℕ × Unit)) :=
  fun a b h => pcell_injective (congrArg Prod.fst h)

def ringToks : Finset (GSem nD τ sig × ℕ × Unit) := Finset.univ.map ⟨_, ptok_injective⟩

def u₀ : UU := (initOf (Pipeline.cells cfgs cellOf_inj) (Pipeline.launchToks cfgs cellOf_inj), initOf ringCells ringToks)

/-- What a device is dealt for its own eleven semaphores: state, position, mark, token. -/
def minted (c : Dev nD) : sProp 𝕄 :=
  iprop((bigSep Finset.univ fun i : Fin 11 => roundState ER (Rd σ m) (cell c i) 0)
    ∗ (bigSep Finset.univ fun i : Fin 11 => turn c i) ∗ (bigSep Finset.univ fun i : Fin 11 => reached ER (cell c i) 0)
    ∗ (bigSep Finset.univ fun i : Fin 11 => tok c i))

theorem bigSep_eleven (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem fund_ring : BI.own (ER (initOf ringCells ringToks)) ⊢ (|==> bigSep Finset.univ (minted σ m) : sProp 𝕄) := by
  have hX (Φ : GSem nD τ sig → sProp 𝕄) : bigSep ringCells Φ = bigSep Finset.univ fun c : Dev nD => bigSep Finset.univ fun i : Fin 11 => Φ (cell c i) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun i : Fin 11 => tok c i := by
    unfold ringToks; rw [bigSep_map, bigSep_univ_prod]; rfl
  iintro HX
  imod (Rounds.fund ER (Rd σ m) ringCells ringToks) $$ HX with ⟨Hst, Hr, Hat, Htok⟩
  imodintro
  ihave Hst := (Entails.of_eq (hX fun g => roundState ER (Rd σ m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold minted; simp only [bigSep_sep']
  isplitl [Hst]; · iexact Hst
  isplitl [Hat]; · iexact Hat
  isplitl [Hr]; · iexact Hr
  iexact Htok

theorem zeros_eq (c : Dev nD) : (bigSep Finset.univ fun i : Fin 11 => semVal (cell c i) 0 : sProp 𝕄) = zeros c := by
  rw [bigSep_eleven]; rfl

/-- The ten allocated ones and the barrier are all eleven. -/
theorem zeros_split (c : Dev nD) :
    (zeros c : sProp 𝕄)
      = iprop(unscopedSems0 c ∗ Pipeline.ownSems0 (Ix := Unit) (Name := ℕ) (U := UU) (Lvl := ℕ) (Val := Elt F) (τ := τ) osem c) := by
  have hu : (unscopedSems0 c : sProp 𝕄) = semVal (cell c 0) 0 := by
    unfold unscopedSems0; rw [bigSep_eq_bigSepL_of_eq [SemLoc.reg barS] (by decide) (by decide)]; rfl
  rw [Pipeline.ownSems0_eq_of_list c osem [0, 1, 2, 3, 4, 5, 6, 7, 8, 9] (by decide) (by decide), hu]; rfl

theorem alloc_one (c : Dev nD) :
    iprop(Pipeline.ownSems0 (Ix := Unit) (Name := ℕ) (U := UU) (Lvl := ℕ) (Val := Elt F) (τ := τ) osem c ∗ unscopedSems0 c ∗ minted σ m c)
      ⊢ |={Set.univ}=> iprop((bigSep Finset.univ fun i => iprop(∃ κ : ℕ, cellInv ER (Rd σ m) κ (cell c i)))
          ∗ (bigSep Finset.univ fun i : Fin 11 => reached ER (cell c i) 0) ∗ turns c ∗ (bigSep Finset.univ fun i : Fin 11 => tok c i)) := by
  have hturns : (bigSep Finset.univ fun i : Fin 11 => turn c i : sProp 𝕄) = turns c := by rw [bigSep_eleven]; rfl
  unfold minted
  rw [hturns]
  iintro ⟨Hos, Hus, Hst, Hat, Hr, Htok⟩
  imod (show iprop(zeros c ∗ bigSep Finset.univ fun i : Fin 11 => roundState ER (Rd σ m) (cell c i) 0)
      ⊢ (|={Set.univ}=> bigSep Finset.univ fun i => iprop(∃ κ : ℕ, cellInv ER (Rd σ m) κ (cell c i)) : sProp 𝕄) from by
        rw [← zeros_eq, ← bigSep_sep']
        exact (bigSep_mono fun i _ => (Rounds.body_intro ER (Rd σ m) (cell c i)).trans inv_alloc).trans (bigSep_fupd _ _)) $$ [Hos Hus Hst] with Hinv
  · rw [zeros_split]
    isplitl [Hos Hus]
    · isplitl [Hus]; · iexact Hus
      iexact Hos
    iexact Hst
  imodintro
  isplitl [Hinv]; · iexact Hinv
  isplitl [Hr]; · iexact Hr
  isplitl [Hat]; · iexact Hat
  iexact Htok

/-- The tokens go to whoever pays: a barrier's to the device its owner sends to, a receive completion's to the device its
    owner receives from, a send completion's to its owner. -/
theorem toks_dealt : (bigSep Finset.univ fun c : Dev nD => bigSep Finset.univ fun i : Fin 11 => (tok c i : sProp 𝕄))
    ⊢ bigSep Finset.univ fun c : Dev nD => payToks σ c := by
  have he (c : Dev nD) : (bigSep Finset.univ fun i : Fin 11 => (tok c i : sProp 𝕄)) = iprop(tok c 0 ∗ tok c 1 ∗ tok c 2 ∗ tok c 3 ∗ tok c 4 ∗ tok c 5 ∗ tok c 6 ∗ tok c 7 ∗ tok c 8 ∗ tok c 9 ∗ tok c 10) := by rw [bigSep_eleven]
  rw [bigSep_congr (s := Finset.univ) fun c _ => he c]
  unfold payToks
  simp only [bigSep_sep']
  rw [bigSep_univ_equiv (ring σ).symm (fun c : Dev nD => (tok c 0 : sProp 𝕄)),
    bigSep_univ_equiv (ring σ) (fun c : Dev nD => (tok c 6 : sProp 𝕄)),
    bigSep_univ_equiv (ring σ) (fun c : Dev nD => (tok c 7 : sProp 𝕄)),
    bigSep_univ_equiv (ring σ) (fun c : Dev nD => (tok c 8 : sProp 𝕄)),
    bigSep_univ_equiv (ring σ) (fun c : Dev nD => (tok c 9 : sProp 𝕄)),
    bigSep_univ_equiv (ring σ) (fun c : Dev nD => (tok c 10 : sProp 𝕄))]
  exact Entails.refl _

theorem deal_one (K : Dev nD × Fin 11 → ℕ) (c : Dev nD) : iprop(records σ m K ∗ turns c ∗ payToks σ c) ⊢ dealt σ m c := by
  unfold dealt
  iintro H
  iexists K
  iexact H

theorem regroup :
    (bigSep Finset.univ fun c : Dev nD => iprop((bigSep Finset.univ fun i => iprop(∃ κ : ℕ, cellInv ER (Rd σ m) κ (cell c i)))
          ∗ (bigSep Finset.univ fun i : Fin 11 => reached ER (cell c i) 0) ∗ turns c ∗ (bigSep Finset.univ fun i : Fin 11 => tok c i)) : sProp 𝕄)
      ⊢ bigSep Finset.univ (dealt σ m) := by
  rw [bigSep_sep', bigSep_sep', bigSep_sep', ← bigSep_univ_prod (fun ci : Dev nD × Fin 11 => iprop(∃ κ : ℕ, cellInv ER (Rd σ m) κ (pcell ci))),
    ← bigSep_univ_prod (fun ci : Dev nD × Fin 11 => (reached ER (pcell ci) 0 : sProp 𝕄))]
  iintro ⟨HI, #HR, Hat, Htok⟩
  ihave HK := (BI.bigSep_exists_pi Finset.univ (fun (ci : Dev nD × Fin 11) (κ : ℕ) => (cellInv ER (Rd σ m) κ (pcell ci) : sProp 𝕄))) $$ HI
  icases HK with ⟨%K, #HI⟩
  ihave Htk := (toks_dealt (F := F) σ) $$ Htok
  iapply (bigSep_with_persistent (R := records σ m K) fun c _ => deal_one σ m K c)
  isplitr
  · unfold records; isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ minted σ m c) : sProp 𝕄)
    ⊢ |={Set.univ}=> bigSep Finset.univ (dealt σ m) :=
  ((bigSep_mono fun c _ => alloc_one σ m c).trans (bigSep_fupd _ _)).trans (BI.fupd_mono (regroup σ m))

/-! ## The credits at launch -/

theorem tally_of (a b : Dev nD) (i j : Fin 11) (n : ℕ) :
    (tallyAt (cell a i) () n : CellTallies nD τ sig Unit) (cell b j) () = if a = b ∧ i = j then n else 0 := by
  rw [tallyAt_apply]
  by_cases h : a = b ∧ i = j
  · rw [if_pos h, if_pos ⟨by rw [h.1, h.2], rfl⟩]
  · rw [if_neg h, if_neg fun h' => h (by have := cell_eq h'.1; exact ⟨this.1.symm, this.2.symm⟩)]

theorem dues_of (d c : Dev nD) (i : Fin 11) (l : List (Fin 11)) :
    dues σ d l (cell c i) () = if d = org σ c then l.count i * amt i else 0 := by
  induction l with
  | nil => unfold dues; rw [List.count_nil, Nat.zero_mul, ite_self]; rfl
  | cons j l ih =>
    unfold dues
    rw [Pi.add_apply, Finsupp.add_apply, ih, tally_of, List.count_cons]
    have hd : (tgt σ d = c) ↔ (d = org σ c) := ⟨fun h => by rw [← h, org_tgt], fun h => by rw [h, tgt_org]⟩
    by_cases h : d = org σ c
    · rw [if_pos h, if_pos h]
      by_cases hj : j = i
      · rw [if_pos ⟨hd.mpr h, hj⟩, hj, if_pos (beq_self_eq_true i), Nat.add_mul, Nat.one_mul]
      · rw [if_neg fun h' => hj h'.2, if_neg (by simpa using hj), Nat.add_zero, Nat.add_zero]
    · rw [if_neg h, if_neg h, if_neg fun h' => h (hd.mp h'.1)]

theorem owed_bar (d c : Dev nD) : O₀ σ d (cell c 0) () = if d = tgt σ c then amt 0 else 0 := by
  unfold O₀
  rw [Pi.add_apply, Finsupp.add_apply, dues_of, show ([6, 7, 8, 9, 10] : List (Fin 11)).count 0 = 0 from by decide, Nat.zero_mul, ite_self, Nat.zero_add, tally_of]
  by_cases h : d = tgt σ c
  · rw [if_pos h, if_pos ⟨by rw [h, org_tgt], rfl⟩]; rfl
  · rw [if_neg h, if_neg fun h' => h (by rw [← h'.1, tgt_org])]

theorem owed_recv (d c : Dev nD) (i : Fin 11) (hi : ([6, 7, 8, 9, 10] : List (Fin 11)).count i = 1) (h0 : i ≠ 0) :
    O₀ σ d (cell c i) () = if d = org σ c then amt i else 0 := by
  unfold O₀
  rw [Pi.add_apply, Finsupp.add_apply, dues_of, hi, Nat.one_mul, show (tallyAt (cell (org σ d) 0) () 1 : CellTallies nD τ sig Unit) (cell c i) () = 0 from
    (tally_of (org σ d) c 0 i 1).trans (if_neg fun h => h0 h.2.symm), Nat.add_zero]

theorem launch_of (c p : Dev nD) (i : Fin 11) (h : ∀ d, O₀ σ d (cell c i) () = if d = p then amt i else 0) :
    tallyOn (cell c i) (launchCredit (Pipeline.owing (O₀ σ)) 0 (cell c i)) = (tallyAt (cell c i) () (amt i) : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ p fun _ => amt i,
    if_pos (Finset.mem_univ _)]

theorem creds (c : Dev nD) : (Pipeline.launchCred (O₀ σ) c : sProp 𝕄) ⊢ credits c := by
  unfold Pipeline.launchCred credits
  have h0 := launch_of σ c _ 0 (fun d => owed_bar σ d c)
  have hr (i : Fin 11) (hi : ([6, 7, 8, 9, 10] : List (Fin 11)).count i = 1) (hn : i ≠ 0) := launch_of σ c _ i (fun d => owed_recv σ d c i hi hn)
  refine (bigSep_subset (Finset.subset_univ (([0, 6, 7, 8, 9, 10] : List (Fin 11)).map csem).toFinset)).trans ?_
  rw [bigSep_eq_bigSepL_of_eq (([0, 6, 7, 8, 9, 10] : List (Fin 11)).map csem) rfl (by decide)]
  show iprop(cred (tallyOn (cell c 0) _) ∗ cred (tallyOn (cell c 6) _) ∗ cred (tallyOn (cell c 7) _) ∗ cred (tallyOn (cell c 8) _) ∗ cred (tallyOn (cell c 9) _)
    ∗ cred (tallyOn (cell c 10) _)) ⊢ _
  rw [h0, hr 6 (by decide) (by decide), hr 7 (by decide) (by decide), hr 8 (by decide) (by decide), hr 9 (by decide) (by decide), hr 10 (by decide) (by decide)]

/-! ## The run -/

theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ dealt σ m c)
      ⊢ |={Set.univ}=> iprop(start σ m c ∗ emp) := by
  iintro ⟨-, Hlev, Hcr, -, HG⟩
  ihave Hc := (creds (F := F) σ c) $$ Hcr
  imodintro
  unfold start
  isplitl
  · isplitl [HG]; · iexact HG
    isplitl [Hc]; · iexact Hc
    iexact Hlev
  · iempintro

/-- The kernel's scratch buffers are the core's remaining scoped ones. -/
theorem scratch_eq (c : Dev nD) : (Pipeline.scopedRest cfg0.spec c : sProp 𝕄) = scratch c := by
  have h (b : Ref sig .tc) : (iprop(∃ f : Buf (Elt F) ((c : Thread nD τ).loc b), ((c : Thread nD τ).loc b) ↦{fullShare} f) : sProp 𝕄)
      = iprop(∃ X, has c (Memref.whole b) X) := by
    unfold has; simp only [owns_whole]
  rw [show cfg0.spec = spec0 from rfl, scopedRest0_eq]
  unfold scratch
  rw [h, h, h, h]; rfl

theorem enter (c : Dev nD) :
    iprop(start σ m c ∗ Pipeline.prefHeld Pipeline.Prefetch.none c (fun _ => fullShare.right) (fun k => k.elim0) ∗ Pipeline.scopedRest cfg0.spec c)
      ⊢ (dats σ m ρ 0 c).Φ 0 := by
  rw [show (dats σ m ρ 0 c).Φ 0 = Φ₀ σ m c from rfl, scratch_eq]
  unfold Φ₀
  iintro ⟨Hs, -, Hr⟩
  isplitl [Hs]; · iexact Hs
  iexact Hr

theorem leave (c : Dev nD) :
    (dats σ m ρ 0 c).Φ (Fin.last cfg0.N) ⊢ iprop(unscopedSems0 c ∗ Pipeline.ownSems0 osem c ∗ Pipeline.scopedRest cfg0.spec c) := by
  rw [show (dats σ m ρ 0 c).Φ (Fin.last cfg0.N) = Φ₁ c from rfl, scratch_eq]
  unfold Φ₁
  rw [zeros_split]
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats σ m ρ) () 0 c :=
  Pipeline.cellsWaits_intro cfgs (dats σ m ρ) () 0 c fun w s t =>
    mayWait_stage σ c _ (by fin_cases w <;> fin_cases s <;> rfl) _ (by
      rcases t with ⟨_ | _, ht⟩
      · exact Or.inl rfl
      · exact Or.inr rfl)

/-- What each window's array holds after the run. -/
def finalA (c : Dev nD) (w : Fin cfg0.W) : Buf (Elt F) ((cfg0.win w).arr.view.loc (c : Thread nD τ)) := (dats σ m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA σ m ρ c w

include hpi in
/-- Where the table is that of a permutation: every fair execution of the sixteen devices ends, with every window's array at its
    computed contents and every semaphore at zero. -/
theorem run_perm : θ_run defs (onTc (τ := τ) (main (F := F))) (s₀ m ρ) (fun r => QC σ m ρ r ∧ r.2.sem = fun _ => 0) :=
  Pipeline.θ_run_region_owing_glob_pf (fun p => (cfgs p).toPCfg) (fun p => (cfgs p).toPCfg_adm) (dats σ m ρ) () cellOf_inj (0 : Fin 1)
    winFacts0.to₀ ownSemFacts (Pipeline.PreFacts.none _) EP defs₀ 𝒱₀ m ρ main
    (hmain := fun _ => rfl)
    (hbody := body_obligation σ m ρ hpi) (hne := fun w => by fin_cases w <;> exact Nat.succ_pos _) (harr := arr_whole0) (hstage := stage_whole0)
    (hshare := share_eq σ m ρ) (hdistinct := winFacts0.arr_inj)
    (O₀ := O₀ σ) (howed₀ := fun _ => rfl) (howedN := fun _ => rfl)
    (L := L) (lv := lv) (hL := L_of_ne) (hwaits := waits σ m ρ)
    (G := minted σ m) (G' := dealt σ m) (u₀ := u₀)
    (hu₀ := by
      unfold u₀
      iintro Hu
      ihave H := (ownU_pair _ _) $$ Hu
      icases H with ⟨HP, HX⟩
      imod (fund_ring σ m) $$ HX with HG
      imodintro
      isplitl [HP] <;> iassumption)
    (hglob := glob σ m)
    (hA := fun _ _ => rfl) (hpf := fun _ k => k.elim0)
    (X := start σ m) (Y := fun c => unscopedSems0 c) (Z := fun _ => iprop(emp))
    (hX := start_intro σ m ρ) (hin := enter σ m ρ) (hout := leave σ m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Permute

end
-- ==== Proof.Frames.lean ====
/-
# The arrays after the run, for a permutation given as a table
A precondition gives the table as four words. This file turns such words into a permutation of the places, and states
the run under it in the words of the claims: the argument arrays are as at the start, every semaphore is at zero, and the
result array holds, on every device, the block that its origin sent.
-/
module

public import proofs.«01_k».proof.Proof.Launch
public import Idealize.ShloMosaic.Lib.Pipeline.ValueKit.Geometry

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Equiv.Perm (Fin 4)) (m : (ℓ : Loc nD τ sig) → Buf (Elt F) ℓ) (ρ : Dev nD → PrngReg)

/-! ## Tables -/

/-- The permutation that sends place `z` to place `p z`. -/
def arrangement (p : Fin 4 → Fin 4) (h : Function.Injective p) : Equiv.Perm (Fin 4) :=
  Equiv.ofBijective p ⟨h, Finite.surjective_of_injective h⟩

/-- Words that are equal element by element are equal. -/
theorem eq_of_cmpi {s : Shape} {a b : IVec s 32} (h : cmpi .eq a b = fun _ => 1#1) : a = b := by
  funext i
  have hi : BitVec.ofBool (a i == b i) = 1#1 := congrFun h i
  cases hb : a i == b i with
  | true => exact eq_of_beq hb
  | false => rw [hb] at hi; exact absurd hi (by decide)

/-- A table that equals four given words is the table of the permutation that the words spell. -/
theorem tab_of_cmpi {a : S4.Idx → Elt F .i32} {t : Fin 4 → BitVec 32}
    (h : cmpi .eq a (fun i => t (S4.rowMajor i)) = fun _ => 1#1) (ht : ∀ z, t z = word (σ z)) : a = tab σ := by
  rw [eq_of_cmpi h]
  funext i
  have hi : S4.rowMajor i = ⟨(i 0).val, (i 0).isLt⟩ := Fin.ext (Shape.rowMajor_val_one i)
  rw [hi]
  exact ht _

/-- The block of the table that is staged is the table. -/
theorem tabstg_eq (c : Dev nD) : tabstg m c = m ((c : Thread nD τ).loc main_arg1) := by
  funext i
  refine congrArg (m ((c : Thread nD τ).loc main_arg1)) (funext fun a => Fin.ext ?_)
  exact win0_1.rect_emb_val_of_index_zero t₀ a (by fin_cases a <;> decide +kernel) i

/-- The block of the operand that is staged is the operand. -/
theorem xstg_eq (c : Dev nD) : xstg m c = m ((c : Thread nD τ).loc main_arg0) := by
  funext i
  refine congrArg (m ((c : Thread nD τ).loc main_arg0)) (funext fun a => Fin.ext ?_)
  exact win0_0.rect_emb_val_of_index_zero t₀ a (by fin_cases a <;> decide +kernel) i

/-! ## The arrays at the end -/

theorem final_operand (c : Dev nD) : finalA σ m ρ c 0 = m ((c : Thread nD τ).loc main_arg0) :=
  (dats σ m ρ 0 c).arrAt_in 0 rfl _

theorem final_table (c : Dev nD) : finalA σ m ρ c 1 = m ((c : Thread nD τ).loc main_arg1) :=
  (dats σ m ρ 0 c).arrAt_in 1 rfl _

theorem final_result (c : Dev nD) : finalA σ m ρ c 2 = outAt σ m c :=
  (dats σ m ρ 0 c).arrAt_eq_of_after_last 2 t₀ (by decide +kernel) _ fun j => rfl

/-- The whole run under a table of four given words. -/
theorem run_table {t : Fin 4 → BitVec 32} (ht : ∀ z, t z = word (σ z))
    (hm : ∀ c : Dev nD, cmpi .eq (m ((c : Thread nD τ).loc main_arg1) : IVec S4 32) (fun i => t (S4.rowMajor i)) = fun _ => 1#1) :
    θ_run defs (onTc (τ := τ) (main (F := F))) ⟨m, fun _ => 0, ρ⟩ (fun r =>
      (∀ c : Dev nD, r.2.mem ((c : Thread nD τ).loc main_v1) = outAt σ m c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono
    (fun _ h => ⟨fun c => ⟨(h.1 c 2).trans (final_result σ m ρ c), (h.1 c 0).trans (final_operand σ m ρ c),
      (h.1 c 1).trans (final_table σ m ρ c)⟩, h.2⟩)
    (run_perm σ m ρ fun c => (tabstg_eq m c).trans (tab_of_cmpi σ (hm c) ht))

/-- The run ends with the argument arrays as they were and every semaphore at zero. -/
theorem frame {t : Fin 4 → BitVec 32} (ht : ∀ z, t z = word (σ z))
    (hm : ∀ c : Dev nD, cmpi .eq (m ((c : Thread nD τ).loc main_arg1) : IVec S4 32) (fun i => t (S4.rowMajor i)) = fun _ => 1#1) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ h => ⟨fun c => (h.1 c).2, h.2⟩) (run_table σ m ρ ht hm)

end Cert.Permute

end
-- ==== Proof.Quantise.lean ====
/-
# Quantising one number

The kernel multiplies by `127 / A`, rounds, and casts to an 8-bit integer; the reference divides by `A / 127`, rounds, and
clips to `[-127, 127]`. Over the extended reals, where `A` is positive and bounds the number, the two give the same after
the multiplication by `A / 127` that undoes the scaling.
-/
module

public import Idealize.ShloMosaic.PureOps.Ideal

@[expose] public section

noncomputable section

namespace Cert.Permute

open Idealize.ShloMosaic

/-- The magnitude of a number. -/
def mag (x : EReal) : EReal := max x (-x)

/-- The quantised number of the kernel, scaled back. -/
def viaCode (x A : EReal) : EReal :=
  (((Ideal.fptosi 8 (Ideal.liftRound Ideal.roundHalfEven (x * Ideal.div ((127 : ℝ) : EReal) A))).toInt : ℝ) : EReal)
    * Ideal.div A ((127 : ℝ) : EReal)

/-- The quantised number of the reference, scaled back. -/
def viaClip (x A : EReal) : EReal :=
  min ((127 : ℝ) : EReal) (max ((-127 : ℝ) : EReal)
    (Ideal.liftRound Ideal.roundHalfEven (Ideal.div x (Ideal.div A ((127 : ℝ) : EReal))))) * Ideal.div A ((127 : ℝ) : EReal)

/-- Rounding keeps a number between two integers between them. -/
theorem roundHalfEven_mem {r : ℝ} {n : ℤ} (hlo : ((-n : ℤ) : ℝ) ≤ r) (hhi : r ≤ (n : ℝ)) :
    -n ≤ Ideal.roundHalfEven r ∧ Ideal.roundHalfEven r ≤ n := by
  have h1 : -n ≤ ⌊r⌋ := Int.le_floor.2 hlo
  have h2 : ⌊r⌋ ≤ n := by exact_mod_cast (Int.floor_le r).trans hhi
  have h3 : 1 / 2 ≤ r - ⌊r⌋ → ⌊r⌋ + 1 ≤ n := fun h => by
    have : ((⌊r⌋ : ℤ) : ℝ) < n := by linarith
    exact_mod_cast this
  simp only [Ideal.roundHalfEven]
  split_ifs with ha hb hc
  · exact ⟨h1, h2⟩
  · exact ⟨by omega, h3 hb.le⟩
  · exact ⟨h1, h2⟩
  · exact ⟨by omega, h3 (not_lt.1 ha)⟩

/-- An integer that fits eight bits survives the cast. -/
theorem fptosi_int {n : ℤ} (hlo : -128 ≤ n) (hhi : n ≤ 127) : (Ideal.fptosi 8 (((n : ℤ) : ℝ) : EReal)).toInt = n := by
  have h : (if (0 : ℝ) ≤ ((n : ℤ) : ℝ) then ⌊((n : ℤ) : ℝ)⌋ else ⌈((n : ℤ) : ℝ)⌉) = n := by simp
  rw [Ideal.fptosi, Ideal.toIntClamped_coe, h, BitVec.toInt_ofInt]
  have h' : max (-((2 ^ (8 - 1) : Nat) : ℤ)) (min (((2 ^ (8 - 1) : Nat) : ℤ) - 1) n) = n := by
    norm_num
    omega
  rw [h', Int.bmod_def]
  omega

theorem viaCode_top (x : EReal) : viaCode x ⊤ = 0 := by
  have h : Ideal.div ((127 : ℝ) : EReal) ⊤ = 0 := by simp [Ideal.div]
  have h0 : Ideal.liftRound Ideal.roundHalfEven 0 = (((0 : ℤ) : ℝ) : EReal) := by
    rw [← EReal.coe_zero, Ideal.liftRound_coe]
    congr 2
    norm_num [Ideal.roundHalfEven]
  rw [viaCode, h, mul_zero, h0, fptosi_int (by norm_num) (by norm_num)]
  simp

theorem viaClip_top (x : EReal) : viaClip x ⊤ = 0 := by
  have h : Ideal.div ⊤ ((127 : ℝ) : EReal) = ⊤ := by
    rw [Ideal.div_coe (by norm_num), EReal.top_mul_coe_of_pos (by norm_num)]
  have h' : Ideal.div x ⊤ = 0 := by simp [Ideal.div]
  have h0 : Ideal.liftRound Ideal.roundHalfEven 0 = 0 := by
    rw [← EReal.coe_zero, Ideal.liftRound_coe]
    congr 1
    norm_num [Ideal.roundHalfEven]
  have h1 : min ((127 : ℝ) : EReal) (max ((-127 : ℝ) : EReal) 0) = 0 := by
    rw [max_eq_right (by exact_mod_cast (by norm_num : (-127 : ℝ) ≤ 0)), min_eq_right (by exact_mod_cast (by norm_num : (0 : ℝ) ≤ 127))]
  rw [viaClip, h, h', h0, h1, zero_mul]

/-- The two quantisers agree on a real number within a real positive bound. -/
theorem viaCode_coe {x a : ℝ} (ha : 0 < a) (h : |x| ≤ a) : viaCode x a = viaClip x a := by
  have ha' : a ≠ 0 := ha.ne'
  have hs : a * (1 / 127) ≠ 0 := by positivity
  have hk : (x : EReal) * Ideal.div ((127 : ℝ) : EReal) a = ((127 * x / a : ℝ) : EReal) := by
    rw [Ideal.div_coe ha', ← EReal.coe_mul, ← EReal.coe_mul]
    congr 1
    field_simp
  have hr : Ideal.div (x : EReal) (Ideal.div a ((127 : ℝ) : EReal)) = ((127 * x / a : ℝ) : EReal) := by
    rw [Ideal.div_coe (by norm_num : (127 : ℝ) ≠ 0), ← EReal.coe_mul, Ideal.div_coe hs, ← EReal.coe_mul]
    congr 1
    field_simp
  obtain ⟨h1, h2⟩ := abs_le.1 h
  obtain ⟨hlo, hhi⟩ := roundHalfEven_mem (r := 127 * x / a) (n := 127)
    (by push_cast; rw [le_div_iff₀ ha]; linarith) (by push_cast; rw [div_le_iff₀ ha]; linarith)
  rw [viaCode, viaClip, hk, hr, Ideal.liftRound_coe, fptosi_int (by omega) (by omega),
    max_eq_right (by exact_mod_cast hlo), min_eq_right (by exact_mod_cast hhi)]

/-- The two quantisers agree on every number within a positive bound. -/
theorem viaCode_eq {x A : EReal} (hA : 0 < A) (h : mag x ≤ A) : viaCode x A = viaClip x A := by
  induction A with
  | bot => exact absurd hA (by simp)
  | top => rw [viaCode_top, viaClip_top]
  | coe a =>
    obtain ⟨h1, h2⟩ := max_le_iff.1 h
    induction x with
    | bot => exact absurd h2 (by simp)
    | top => exact absurd h1 (by simp)
    | coe x =>
      exact viaCode_coe (by exact_mod_cast hA) (abs_le.2 ⟨by
        have : -x ≤ a := by exact_mod_cast h2
        linarith, by exact_mod_cast h1⟩)

/-! ## The literals -/

theorem ofBits_127 : Ideal.ofBits .bf16 0x42FE#16 = ((127 : ℝ) : EReal) := by
  simp [Ideal.ofBits, Ideal.ieee, -EReal.coe_mul]
  norm_num

theorem ofBits_127_f32 : Ideal.ofBits .f32 0x42FE0000#32 = ((127 : ℝ) : EReal) := by
  simp [Ideal.ofBits, Ideal.ieee, -EReal.coe_mul]
  norm_num

theorem ofBits_neg_127_f32 : Ideal.ofBits .f32 0xC2FE0000#32 = ((-127 : ℝ) : EReal) := by
  simp [Ideal.ofBits, Ideal.ieee, -EReal.coe_mul]
  norm_num

theorem ofBits_bot : Ideal.ofBits .bf16 0xFF80#16 = ⊥ := by
  simp [Ideal.ofBits, Ideal.ieee]

/-- The least bound that a block is given, by the kernel and by the reference; it is positive. -/
def least : EReal := Ideal.ofBits .bf16 0x0DA2#16

theorem least_pos : 0 < least := by
  unfold least
  simp [Ideal.ofBits, Ideal.ieee, -EReal.coe_mul]

end Cert.Permute

end
-- ==== Proof.Sent.lean ====
/-
# What a device receives, element by element
The kernel's operations read at one element over the extended reals: the bound that a device takes of its block, and the
element of the result block, which is the quantised element of the block sent, scaled back.
-/
module

public import proofs.«01_k».proof.Proof.Frames
public import proofs.«01_k».proof.Proof.Quantise
public import Idealize.ShloMosaic.Lib.Pointwise

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The bound of a block -/

theorem columns (h : S512x512.Reduces [0] S512) (hφ) (hacc) (v : FVec Ideal S512x512 .bf16) (j : S512.Idx) :
    multiReduction .maximumf [0] S512 v 0xFF80#16 h hφ hacc j
      = (Finset.univ : Finset (Fin 512)).fold max (Ideal.ofBits .bf16 0xFF80#16) fun r => v (ix2 r (j 0)) := by
  rw [multiReduction_maximumf_eq_fold]
  exact h.fold_fiber_r2_a0 j _ _ _

theorem row (h : S1x512.Reduces [1] S1) (hφ) (hacc) (v : FVec Ideal S1x512 .bf16) (j : S1.Idx) :
    multiReduction .maximumf [1] S1 v 0xFF80#16 h hφ hacc j
      = (Finset.univ : Finset (Fin 512)).fold max (Ideal.ofBits .bf16 0xFF80#16) fun l => v (ix2 0 l) := by
  rw [multiReduction_maximumf_eq_fold]
  exact (h.fold_fiber_r2_a1 j _ _ _).trans (by congr 1; funext k; congr 2; exact Subsingleton.elim _ _)

theorem row_apply {α : Type} (w : S512.Idx → α) (h : S512.ShapeCasts S1x512) (l : Fin 512) :
    shapeCast S1x512 w h (ix2 0 l) = w (ix1 l) := by
  pointwise

theorem one_apply {α : Type} (w : S1.Idx → α) (h : S1.ShapeCasts S1x1) : shapeCast S1x1 w h (ix2 0 0) = w (ix1 0) := by
  pointwise

theorem max_apply (a b : FVec Ideal S1x1 .bf16) (i : S1x1.Idx) : maximumf a b i = max (a i) (b i) := rfl

theorem pay1_apply (X : S1x512x512.Idx → EReal) (r l : Fin 512) : k0_pay1 (F := Ideal) X (ix2 r l) = mag (X (ix3 0 r l)) := by
  pointwise [k0_pay1]
  rfl

theorem pay2_apply (V : FVec Ideal S512x512 .bf16) :
    k0_pay2 (F := Ideal) V (ix2 0 0)
      = max ((Finset.univ : Finset (Fin 512)).fold max (Ideal.ofBits .bf16 0xFF80#16) fun l =>
          (Finset.univ : Finset (Fin 512)).fold max (Ideal.ofBits .bf16 0xFF80#16) fun r => V (ix2 r l)) least := by
  unfold k0_pay2
  dsimp only
  rw [max_apply, one_apply]
  refine congrArg₂ max ((row reduces_S1x512_S1 _ _ _ _).trans (Finset.fold_congr fun l _ => ?_)) rfl
  exact (row_apply _ _ l).trans (columns reduces_S512x512_S512 _ _ V _)

/-- The bound that the kernel takes of a block. -/
def bound (X : S1x512x512.Idx → EReal) : EReal := k0_pay2 (F := Ideal) (k0_pay1 X) (ix2 0 0)

/-- It is the least number that bounds every magnitude of the block and the least bound. -/
theorem bound_le_iff (X : S1x512x512.Idx → EReal) (M : EReal) :
    bound X ≤ M ↔ (∀ r l : Fin 512, mag (X (ix3 0 r l)) ≤ M) ∧ least ≤ M := by
  rw [bound, pay2_apply, max_le_iff, Finset.fold_max_le]
  simp only [Finset.fold_max_le, Finset.mem_univ, true_implies, pay1_apply, ofBits_bot, bot_le, true_and]
  exact and_congr_left fun _ => forall_comm

theorem bound_pos (X : S1x512x512.Idx → EReal) : 0 < bound X :=
  least_pos.trans_le ((bound_le_iff X _).1 le_rfl).2

theorem mag_le_bound (X : S1x512x512.Idx → EReal) (r l : Fin 512) : mag (X (ix3 0 r l)) ≤ bound X :=
  ((bound_le_iff X _).1 le_rfl).1 r l

/-! ## The block received -/

theorem div_apply (a b : FVec Ideal S1x1 .bf16) (i : S1x1.Idx) : divf a b i = Ideal.div (a i) (b i) := rfl

theorem pay3_apply (V : FVec Ideal S512x512 .bf16) :
    k0_pay3 (F := Ideal) V (ix2 0 0) = Ideal.div ((127 : ℝ) : EReal) (k0_pay2 V (ix2 0 0)) := by
  unfold k0_pay3
  rw [div_apply]
  exact congrArg (Ideal.div · _) ofBits_127

theorem pay6_apply (v : FVec Ideal S1x1 .bf16) (X : S1x128x512.Idx → EReal) (r : Fin 128) (l : Fin 512) :
    k0_pay6 (F := Ideal) v X (ix2 r l) = Ideal.fptosi 8 (Ideal.liftRound Ideal.roundHalfEven (X (ix3 0 r l) * v (ix2 0 0))) := by
  pointwise [k0_pay6]
  rfl

theorem pay4_apply (V : FVec Ideal S512x512 .bf16) (i : S1x512.Idx) :
    k0_pay4 (F := Ideal) V i = Ideal.div (k0_pay2 V (ix2 0 0)) ((127 : ℝ) : EReal) := by
  rw [← ofBits_127]
  unfold k0_pay4
  generalize k0_pay2 V = B
  pointwise

theorem pay12_apply (s : Ideal .bf16) (Q : IVec S128x512 8) (r : Fin 128) (l : Fin 512) :
    k0_pay12 (F := Ideal) s Q (ix3 0 r l) = (((Q (ix2 r l)).toInt : ℝ) : EReal) * s := by
  pointwise [k0_pay12]
  rfl

variable (σ : Equiv.Perm (Fin 4)) (m : (ℓ : Loc nD τ sig) → Buf (Elt Ideal) ℓ)

theorem scaleOf_eq (c : Dev nD) : scaleOf m c = Ideal.div (bound (xstg m c)) ((127 : ℝ) : EReal) :=
  pay4_apply (k0_pay1 (xstg m c)) _

theorem codes_apply (c : Dev nD) (k : Fin 4) (r : Fin 128) (l : Fin 512) :
    codes m c k (ix2 r l) = Ideal.fptosi 8 (Ideal.liftRound Ideal.roundHalfEven
      (xstg m c ((slab k).emb (ix3 0 r l)) * Ideal.div ((127 : ℝ) : EReal) (bound (xstg m c)))) := by
  rw [codes, pay6_apply, pay3_apply]
  rfl

theorem outBand_apply (c : Dev nD) (k : Fin 4) (y : S1x128x512.Idx) :
    outBand m c k y = viaCode (xstg m c ((slab k).emb y)) (bound (xstg m c)) := by
  obtain ⟨r, l, rfl⟩ : ∃ (r : Fin 128) (l : Fin 512), y = ix3 0 r l :=
    ⟨y 1, y 2, funext fun
      | ⟨0, _⟩ => Subsingleton.elim (α := Fin 1) _ _
      | ⟨1, _⟩ => rfl
      | ⟨2, _⟩ => rfl⟩
  rw [outBand, pay12_apply, codes_apply, scaleOf_eq]
  rfl

/-- An element of the result block is the origin's element, quantised and scaled back. -/
theorem outAt_apply (c : Dev nD) (i : S1x512x512.Idx) :
    outAt σ m c i = viaCode (xstg m (org σ c) i) (bound (xstg m (org σ c))) := by
  obtain ⟨k, -, hk⟩ := Finset.mem_biUnion.1 (slab_cover ▸ Finset.mem_univ i)
  obtain ⟨y, rfl⟩ : ∃ y, (slab k).emb y = i := (slab k).exists_idx_of_mem hk
  rw [outAt, Rect.glue_emb slab slab_cover slab_disjoint]
  exact outBand_apply m (org σ c) k y

end Cert.Permute

end
-- ==== Proof.Reference.lean ====
/-
# The reference, element by element
The reference quantises each of the four blocks of the whole array, scales it back, and takes the blocks in the order that
sorting the table gives. This file names those steps and reads them at one element over the extended reals: for the table
of a permutation, block `z` of the result is block `σ⁻¹ z`, quantised and scaled back.
-/
module

public import proofs.«01_k».proof.Proof.Gen.ReferenceIdeal
public import proofs.«01_k».proof.Proof.Mesh
public import proofs.«01_k».proof.Proof.Quantise
public import Idealize.ShloMosaic.Lib.Pointwise

@[expose] public section

noncomputable section

namespace Cert.Permute

open Cert.ReferenceIdeal Cert.ReferenceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The order of the blocks -/

/-- The positions of the table in the order of its entries, -/
def sorted (pi : IVec S4 32) : IVec S4 32 := (Host.sort2 S4 0 comparator_i32_i32_d0 pi (iotaInDim S4 32 0)).2
/-- and the same with a negative position counted from the end, of which there is none. -/
def order (pi : IVec S4 32) : IVec S4 32 :=
  select (cmpi .slt (sorted pi) (broadcastInDim S4 ![] bcast_S_S4 (constantI S_ 32 0#32)))
    (addi (sorted pi) (broadcastInDim S4 ![] bcast_S_S4 (constantI S_ 32 4#32))) (sorted pi)

/-- Among four distinct entries, entry `z` stands at the place that it names. -/
theorem order_four : ∀ a b c d : Fin 4, [a, b, c, d].Nodup → ∀ z : Fin 4,
    order (fun i => word (![a, b, c, d] (i 0))) (ix1 (![a, b, c, d] z)) = word z := by
  decide +kernel

theorem order_perm (σ : Equiv.Perm (Fin 4)) (z : Fin 4) : order (fun i => word (σ (i 0))) (ix1 z) = word (σ.symm z) := by
  have hσ : (![σ 0, σ 1, σ 2, σ 3] : Fin 4 → Fin 4) = σ := by
    funext k
    fin_cases k <;> rfl
  have h := order_four (σ 0) (σ 1) (σ 2) (σ 3) (by simp) (σ.symm z)
  rwa [hσ, Equiv.apply_symm_apply] at h

/-! ## Taking blocks in an order -/

/-- Taking one block for every entry of the order. -/
abbrev rowsOf : GatherDims S4x512x512 S4x1 S4x512x512 := gather_S4x512x512_S4x1_S4x512x512_12_0_n_n_0_1_1512512

/-- The element that is read lies in the block that the order names, -/
theorem take_block (idx : IVec S4x1 32) (z : Fin 4) (r l : Fin 512) :
    (rowsOf.operandIdx (ix3 z r l) idx 0).val = min (idx (ix2 z 0)).toInt.toNat 3 := by
  show rowsOf.start _ _ 0 + rowsOf.batchCoord _ 0 + rowsOf.offCoord _ 0 = _
  rw [GatherDims.batchCoord_eq_zero _ _ _ (by decide), GatherDims.offCoord_eq_zero _ _ _ (by decide), Nat.add_zero]
  unfold GatherDims.start
  rw [dif_pos (by decide)]
  have hi : rowsOf.siIdx (ix3 z r l) ⟨0, by decide⟩ = ix2 z 0 := by
    funext b
    match b with
    | ⟨0, _⟩ => rfl
    | ⟨1, _⟩ => rfl
  exact congrArg (fun i => min (idx i).toInt.toNat 3) hi

/-- and within it at the same position. -/
theorem take_inside (idx : IVec S4x1 32) (z : Fin 4) (r l : Fin 512) (a : Fin 3) (ha : a ≠ 0) :
    (rowsOf.operandIdx (ix3 z r l) idx a).val = ((ix3 z r l : S4x512x512.Idx) a).val := by
  show rowsOf.start _ _ a + rowsOf.batchCoord _ a + rowsOf.offCoord _ a = _
  rw [GatherDims.batchCoord_eq_zero _ _ _ (by revert a; decide), Nat.add_zero]
  unfold GatherDims.start GatherDims.offCoord
  rw [dif_neg (by revert a; decide), dif_pos (by revert a; decide), Nat.zero_add]
  match a, ha with
  | ⟨1, _⟩, _ => rfl
  | ⟨2, _⟩, _ => rfl

theorem take_apply (q : S4x512x512.Idx → EReal) (o : IVec S4 32) (z s : Fin 4) (r l : Fin 512) (h : o (ix1 z) = word s) :
    Host.gather rowsOf q (broadcastInDim S4x1 ![0] bcast_S4_S4x1_0 o) (ix3 z r l) = q (ix3 s r l) := by
  have hs : ∀ s : Fin 4, min (word s).toInt.toNat 3 = s.val := by decide
  have ho : broadcastInDim S4x1 ![0] bcast_S4_S4x1_0 o (ix2 z 0) = word s := by
    rw [← h]
    pointwise
  refine congrArg q (funext fun a => Fin.ext ?_)
  match a with
  | ⟨0, _⟩ => exact (take_block _ z r l).trans (ho ▸ hs s)
  | ⟨1, _⟩ => exact take_inside _ z r l 1 (by decide)
  | ⟨2, _⟩ => exact take_inside _ z r l 2 (by decide)

/-! ## Quantising the blocks -/

/-- The bounds of the blocks, -/
def bounds (x : FVec Ideal S4x512x512 .bf16) : FVec Ideal S4x1x1 .bf16 :=
  maximumf (broadcastInDim S4x1x1 ![0] bcast_S4_S4x1x1_0
      (Host.reduce FloatOps.maximumf (Host.absf x) (constant S_ .bf16 0xFF80#16) reducesTo_S4x512x512_S4_d1_2 h_S_))
    (broadcastInDim S4x1x1 ![] bcast_S_S4x1x1 (constant S_ .bf16 0x0DA2#16))
/-- their scales, -/
def scales (x : FVec Ideal S4x512x512 .bf16) : FVec Ideal S4x1x1 .bf16 :=
  Host.divf (bounds x) (broadcastInDim S4x1x1 ![] bcast_S_S4x1x1 (constant S_ .bf16 0x42FE#16))
/-- and the blocks, quantised and scaled back. -/
def quantised (x : FVec Ideal S4x512x512 .bf16) : FVec Ideal S4x512x512 .bf16 :=
  mulf (minimumf (broadcastInDim S4x512x512 ![] bcast_S_S4x512x512 (truncf .bf16 (constant S_ .f32 0x42FE0000#32) bitsLt_bf16_f32))
      (maximumf (broadcastInDim S4x512x512 ![] bcast_S_S4x512x512 (truncf .bf16 (constant S_ .f32 0xC2FE0000#32) bitsLt_bf16_f32))
        (Host.roundeven (Host.divf x (broadcastInDim S4x512x512 ![0, 1, 2] bcast_S4x1x1_S4x512x512_0_1_2 (scales x))))))
    (broadcastInDim S4x512x512 ![0, 1, 2] bcast_S4x1x1_S4x512x512_0_1_2 (scales x))

/-- The largest magnitude of a block. -/
theorem peak_le_iff (x : FVec Ideal S4x512x512 .bf16) (s : Fin 4) (M : EReal) :
    Host.reduce FloatOps.maximumf (Host.absf x) (constant S_ .bf16 0xFF80#16) reducesTo_S4x512x512_S4_d1_2 h_S_ (ix1 s) ≤ M
      ↔ ∀ r l : Fin 512, mag (x (ix3 s r l)) ≤ M := by
  rw [Host.reduce_eq_fold, reducesTo_S4x512x512_S4_d1_2.fold_fiber_r3_a12]
  refine (Finset.fold_max_le _).trans ?_
  have h0 : constant (F := Ideal) S_ .bf16 0xFF80#16 (Shape.Idx.first h_S_) = ⊥ := ofBits_bot
  rw [h0]
  exact ⟨fun h r l => h.2 (r, l) (Finset.mem_univ _), fun h => ⟨bot_le, fun k _ => h k.1 k.2⟩⟩

theorem bounds_apply (x : FVec Ideal S4x512x512 .bf16) (s : Fin 4) :
    bounds x (ix3 s 0 0) = max (Host.reduce FloatOps.maximumf (Host.absf x) (constant S_ .bf16 0xFF80#16)
      reducesTo_S4x512x512_S4_d1_2 h_S_ (ix1 s)) least := by
  unfold bounds
  generalize Host.reduce FloatOps.maximumf (Host.absf x) (constant S_ .bf16 0xFF80#16) reducesTo_S4x512x512_S4_d1_2 h_S_ = p
  pointwise [least]

/-- The reference's bound is the least number that bounds every magnitude of the block and the least bound. -/
theorem bounds_le_iff (x : FVec Ideal S4x512x512 .bf16) (s : Fin 4) (M : EReal) :
    bounds x (ix3 s 0 0) ≤ M ↔ (∀ r l : Fin 512, mag (x (ix3 s r l)) ≤ M) ∧ least ≤ M := by
  rw [bounds_apply, max_le_iff, peak_le_iff]

theorem scales_apply (x : FVec Ideal S4x512x512 .bf16) (i : S4x1x1.Idx) :
    scales x i = Ideal.div (bounds x i) ((127 : ℝ) : EReal) := by
  rw [← ofBits_127]
  unfold scales
  generalize bounds x = B
  pointwise

theorem quantised_apply (x : FVec Ideal S4x512x512 .bf16) (s : Fin 4) (r l : Fin 512) :
    quantised x (ix3 s r l) = viaClip (x (ix3 s r l)) (bounds x (ix3 s 0 0)) := by
  unfold viaClip
  rw [← scales_apply, ← ofBits_127_f32, ← ofBits_neg_127_f32]
  unfold quantised
  generalize scales x = S
  pointwise

/-- The reference's result. -/
def result (x : FVec Ideal S4x512x512 .bf16) (pi : IVec S4 32) : FVec Ideal S4x512x512 .bf16 :=
  Host.gather gather_S4x512x512_S4x1_S4x512x512_12_0_n_n_0_1_1512512 (quantised x)
    (broadcastInDim S4x1 ![0] bcast_S4_S4x1_0 (order pi))

/-- For the table of a permutation, block `z` of the result is block `σ⁻¹ z`, quantised and scaled back. -/
theorem result_apply (x : FVec Ideal S4x512x512 .bf16) (σ : Equiv.Perm (Fin 4)) (z : Fin 4) (r l : Fin 512) :
    result x (fun i => word (σ (i 0))) (ix3 z r l)
      = viaClip (x (ix3 (σ.symm z) r l)) (bounds x (ix3 (σ.symm z) 0 0)) :=
  (take_apply _ _ z (σ.symm z) r l (order_perm σ z)).trans (quantised_apply x _ r l)

end Cert.Permute

end
-- ==== Proof.Agree.lean ====
/-
# The kernel against the reference
A device's block of the operand is its place's block of the whole array, so the bound it takes is the reference's bound of
that block, and the codes it sends, scaled back where they arrive, are the reference's quantised block. The claims are then
stated and proved for any table that is a permutation.
-/
module

public import proofs.«01_k».proof.Proof.Sent
public import proofs.«01_k».proof.Proof.Reference
public import proofs.«01_k».proof.Proof.Gen.ReferenceIdeal.Run
public import Idealize.ShloMosaic.Lib.Layout

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## One device's block of a whole array -/

/-- The devices of a line hold the four blocks of the whole array, in the order of their places. -/
theorem block_at (c : Dev nD) (X : (⟨3, ![4, 512, 512]⟩ : Shape).Idx → EReal) (r l : Fin 512) :
    (Layout.blockN ⟨3, ![1, 512, 512]⟩ ⟨3, ![4, 512, 512]⟩ (Layout.meshBlock [2, 2, 4] ![[2], [], []] c) X : S1x512x512.Idx → EReal)
        (ix3 0 r l) = X (ix3 (place c) r l) := by
  refine congrArg X (funext fun a => Fin.ext ?_)
  match a with
  | ⟨0, _⟩ =>
    show (c.val / 1 % 4 * 1 + 0) * 1 + 0 = c.val % 4
    omega
  | ⟨1, _⟩ => exact (congrArg (· + r.val) (Nat.zero_mul 512)).trans (Nat.zero_add _)
  | ⟨2, _⟩ => exact (congrArg (· + l.val) (Nat.zero_mul 512)).trans (Nat.zero_add _)

/-- The bound a device takes of its block is the bound the reference takes of that block. -/
theorem bound_eq (X : S1x512x512.Idx → EReal) (x : FVec Ideal ReferenceIdeal.S4x512x512 .bf16) (s : Fin 4)
    (h : ∀ r l : Fin 512, X (ix3 0 r l) = x (ix3 s r l)) : bound X = bounds x (ix3 s 0 0) :=
  eq_of_forall_ge_iff fun M => by simp only [bound_le_iff, bounds_le_iff, h]

/-! ## The two results -/

section
variable (σ : Equiv.Perm (Fin 4)) (m : (ℓ : Loc nD τ sig) → Buf (Elt Ideal) ℓ) (x : FVec Ideal ReferenceIdeal.S4x512x512 .bf16)

/-- Every device ends with its block of the reference's result. -/
theorem outAt_eq (hx : ∀ c : Dev nD, m ((c : Thread nD τ).loc main_arg0)
      = Layout.blockN ⟨3, ![1, 512, 512]⟩ ⟨3, ![4, 512, 512]⟩ (Layout.meshBlock [2, 2, 4] ![[2], [], []] c) x) (c : Dev nD) :
    outAt σ m c = Layout.blockN ⟨3, ![1, 512, 512]⟩ ⟨3, ![4, 512, 512]⟩ (Layout.meshBlock [2, 2, 4] ![[2], [], []] c)
      (result x fun i => word (σ (i 0))) := by
  have hX (r l : Fin 512) : xstg m (org σ c) (ix3 0 r l) = x (ix3 (σ.symm (place c)) r l) := by
    rw [xstg_eq, hx, block_at, org, place_atPlace]
  funext i
  obtain ⟨r, l, rfl⟩ : ∃ r l : Fin 512, i = ix3 0 r l := ⟨i 1, i 2, funext fun a => by
    match a with
    | ⟨0, _⟩ => exact Fin.ext (Nat.lt_one_iff.1 (i 0).isLt)
    | ⟨1, _⟩ => rfl
    | ⟨2, _⟩ => rfl⟩
  rw [outAt_apply, block_at, result_apply, viaCode_eq (bound_pos _) (mag_le_bound _ r l), hX, bound_eq _ x _ hX]
end

/-! ## The claims under one table -/

/-- The words of a table as places, -/
abbrev placesOf (t : Fin 4 → BitVec 32) (z : Fin 4) : Fin 4 := ⟨(t z).toNat % 4, Nat.mod_lt _ (by decide)⟩

/-- and what makes it the table of a permutation. -/
abbrev Permutes (t : Fin 4 → BitVec 32) : Prop := Function.Injective (placesOf t) ∧ ∀ z, t z = word (placesOf t z)

/-- A device's table is the given one. -/
abbrev Sends (a : IVec S4 32) (t : Fin 4 → BitVec 32) : Prop := cmpi .eq a (fun i => t (S4.rowMajor i)) = fun _ => 1#1

/-- The run under the table `t`, whatever the floats are: the arguments stay and the semaphores end at zero. -/
def Quiet (F : FTy → Type) [FloatOps F] (t : Fin 4 → BitVec 32) : Prop :=
  ∀ (m : (ℓ : Loc nD τ sig) → Buf (Elt F) ℓ) (ρ : Dev nD → PrngReg), (∀ c : Dev nD, Sends (m ((c : Thread nD τ).loc main_arg1)) t) →
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0)

theorem quiet {F : FTy → Type} [FloatOps F] {t : Fin 4 → BitVec 32} (h : Permutes t) : Quiet F t :=
  fun m ρ hm => frame (arrangement (placesOf t) h.1) m ρ h.2 hm

/-- The reference's run, with its result named. -/
theorem reference_run (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) ReferenceIdeal.main) ⟨m, fun _ => 0, ρ⟩ (fun r =>
      ∀ c : Dev ReferenceIdeal.nD,
        r.2.mem ((c : Thread ReferenceIdeal.nD ReferenceIdeal.τ).loc ReferenceIdeal.main_v20)
            = result (m ((c : Thread ReferenceIdeal.nD ReferenceIdeal.τ).loc ReferenceIdeal.main_arg0))
                (m ((c : Thread ReferenceIdeal.nD ReferenceIdeal.τ).loc ReferenceIdeal.main_arg1))
          ∧ r.2.mem ((c : Thread ReferenceIdeal.nD ReferenceIdeal.τ).loc ReferenceIdeal.main_arg0)
              = m ((c : Thread ReferenceIdeal.nD ReferenceIdeal.τ).loc ReferenceIdeal.main_arg0)
          ∧ r.2.mem ((c : Thread ReferenceIdeal.nD ReferenceIdeal.τ).loc ReferenceIdeal.main_arg1)
              = m ((c : Thread ReferenceIdeal.nD ReferenceIdeal.τ).loc ReferenceIdeal.main_arg1)) :=
  ReferenceIdeal.Value.run (F := Ideal) m ρ

/-- Under the table `t` the kernel ends with the blocks of the reference's result. -/
def Agrees (t : Fin 4 → BitVec 32) : Prop :=
  ∀ (m : (ℓ : Loc nD τ sig) → Buf (Elt Ideal) ℓ) (ρ : Dev nD → PrngReg)
    (m' : (ℓ : Loc ReferenceIdeal.nD ReferenceIdeal.τ ReferenceIdeal.sig) → Buf (Elt Ideal) ℓ) (ρ' : Dev ReferenceIdeal.nD → PrngReg),
    (∀ c : Dev nD, Sends (m ((c : Thread nD τ).loc main_arg1)) t) →
    (∀ c : Dev nD,
      m ((c : Thread nD τ).loc main_arg0)
          = Layout.blockN ⟨3, ![1, 512, 512]⟩ ⟨3, ![4, 512, 512]⟩ (Layout.meshBlock [2, 2, 4] ![[2], [], []] c)
              (m' (((0 : Dev ReferenceIdeal.nD) : Thread ReferenceIdeal.nD ReferenceIdeal.τ).loc ReferenceIdeal.main_arg0))
        ∧ m ((c : Thread nD τ).loc main_arg1)
          = m' (((0 : Dev ReferenceIdeal.nD) : Thread ReferenceIdeal.nD ReferenceIdeal.τ).loc ReferenceIdeal.main_arg1)) →
    ∃ v : FVec Ideal ReferenceIdeal.S4x512x512 .bf16,
      θ_run defs (onTc (τ := τ) (main (F := Ideal))) ⟨m, fun _ => 0, ρ⟩ (fun r => ∀ c : Dev nD,
          r.2.mem ((c : Thread nD τ).loc main_v1)
              = Layout.blockN ⟨3, ![1, 512, 512]⟩ ⟨3, ![4, 512, 512]⟩ (Layout.meshBlock [2, 2, 4] ![[2], [], []] c) v
            ∧ r.2.mem ((c : Thread nD τ).loc main_arg0) = m ((c : Thread nD τ).loc main_arg0)
            ∧ r.2.mem ((c : Thread nD τ).loc main_arg1) = m ((c : Thread nD τ).loc main_arg1))
      ∧ θ_run (ReferenceIdeal.defs (F := Ideal)) (onTc (τ := ReferenceIdeal.τ) ReferenceIdeal.main) ⟨m', fun _ => 0, ρ'⟩ (fun r =>
          r.2.mem (((0 : Dev ReferenceIdeal.nD) : Thread ReferenceIdeal.nD ReferenceIdeal.τ).loc ReferenceIdeal.main_v20) = v
            ∧ r.2.mem (((0 : Dev ReferenceIdeal.nD) : Thread ReferenceIdeal.nD ReferenceIdeal.τ).loc ReferenceIdeal.main_arg0)
              = m' (((0 : Dev ReferenceIdeal.nD) : Thread ReferenceIdeal.nD ReferenceIdeal.τ).loc ReferenceIdeal.main_arg0)
            ∧ r.2.mem (((0 : Dev ReferenceIdeal.nD) : Thread ReferenceIdeal.nD ReferenceIdeal.τ).loc ReferenceIdeal.main_arg1)
              = m' (((0 : Dev ReferenceIdeal.nD) : Thread ReferenceIdeal.nD ReferenceIdeal.τ).loc ReferenceIdeal.main_arg1))

theorem agrees {t : Fin 4 → BitVec 32} (h : Permutes t) : Agrees t := by
  intro m ρ m' ρ' hm hx
  have hpi : m' (((0 : Dev ReferenceIdeal.nD) : Thread ReferenceIdeal.nD ReferenceIdeal.τ).loc ReferenceIdeal.main_arg1)
      = fun i => word (arrangement (placesOf t) h.1 (i 0)) :=
    (hx 0).2.symm.trans (tab_of_cmpi (arrangement (placesOf t) h.1) (hm 0) h.2)
  refine ⟨result (m' (((0 : Dev ReferenceIdeal.nD) : Thread ReferenceIdeal.nD ReferenceIdeal.τ).loc ReferenceIdeal.main_arg0))
      fun i => word (arrangement (placesOf t) h.1 (i 0)), (θ_run defs _ _).mono (fun r hr c => ?_)
    (run_table (arrangement (placesOf t) h.1) m ρ h.2 hm), (θ_run ReferenceIdeal.defs _ _).mono (fun r hr => ?_) (reference_run m' ρ')⟩
  · exact ⟨(hr.1 c).1.trans (outAt_eq _ m _ (fun c => (hx c).1) c), (hr.1 c).2⟩
  · exact ⟨(hr 0).1.trans (congrArg (result _) hpi), (hr 0).2⟩

end Cert.Permute

end
-- ==== Proof.lean ====
/-
# The claim
The run of the kernel is proved once, for any permutation and any floats; the equation with the reference is proved once, for
any permutation. What is left here is to give both each of the 24 tables.
-/
module

public import proofs.«01_k».proof.Defs
public import proofs.«01_k».proof.Proof.Gen.Kernel
public import proofs.«01_k».proof.Proof.Agree

@[expose] public section

noncomputable section

namespace Cert.Proof

open Idealize.ShloMosaic Idealize.ShloMosaic.TcCoe Idealize.SL.Sem Cert.Permute

/-- The two kernels are one text, so the bodies they call are the same, -/
theorem calls_eq : Kernel.defs₀ (F := Bits) = KernelIdeal.defs₀ (F := Bits) :=
  congrArg (Defs.onTc (Λ := KernelIdeal.Λ₀)) (funext fun l => funext fun x => by
    match l, x with
    | 0, _ => rfl)

/-- and so are the pipelines around them. -/
theorem defs_eq : Kernel.defs (F := Bits) = KernelIdeal.defs (F := Bits) := congrArg (Pipeline.defs KernelIdeal.pcfgs) calls_eq

/-- The run of the kernel with floats that are bit patterns: the arguments stay and the semaphores end at zero. -/
def KernelQuiet (t : Fin 4 → BitVec 32) : Prop :=
  ∀ (m : (ℓ : Loc Kernel.nD Kernel.τ Kernel.sig) → Buf (Elt Bits) ℓ) (ρ : Dev Kernel.nD → PrngReg),
    (∀ c : Dev Kernel.nD, Sends (m ((c : Thread Kernel.nD Kernel.τ).loc Kernel.main_arg1)) t) →
    θ_run (Kernel.defs (F := Bits)) (onTc (τ := Kernel.τ) (Kernel.main (F := Bits))) ⟨m, fun _ => 0, ρ⟩ (fun r =>
      (∀ c : Dev Kernel.nD, r.2.mem ((c : Thread Kernel.nD Kernel.τ).loc Kernel.main_arg0) = m ((c : Thread Kernel.nD Kernel.τ).loc Kernel.main_arg0)
        ∧ r.2.mem ((c : Thread Kernel.nD Kernel.τ).loc Kernel.main_arg1) = m ((c : Thread Kernel.nD Kernel.τ).loc Kernel.main_arg1))
      ∧ r.2.sem = fun _ => 0)

theorem kernel_quiet {t : Fin 4 → BitVec 32} (h : Permutes t) : KernelQuiet t := by
  intro m ρ hm
  rw [defs_eq]
  exact quiet (F := Bits) h m ρ hm

/-- Everything said of the kernel under one table. -/
abbrev Cleared (t : Fin 4 → BitVec 32) : Prop := KernelQuiet t ∧ Quiet Ideal t ∧ Agrees t

theorem cleared {t : Fin 4 → BitVec 32} (h : Permutes t) : Cleared t := ⟨kernel_quiet h, quiet h, agrees h⟩

/-- The reference runs to the end whatever the table is, and leaves its arguments alone. -/
theorem reference {P : ((ℓ : Loc ReferenceIdeal.nD ReferenceIdeal.τ ReferenceIdeal.sig) → Buf (Elt Ideal) ℓ) → Prop}
    (m : (ℓ : Loc ReferenceIdeal.nD ReferenceIdeal.τ ReferenceIdeal.sig) → Buf (Elt Ideal) ℓ) (ρ : Dev ReferenceIdeal.nD → PrngReg) (_ : P m) :
    θ_run (ReferenceIdeal.defs (F := Ideal)) (onTc (τ := ReferenceIdeal.τ) ReferenceIdeal.main) ⟨m, fun _ => 0, ρ⟩ (fun r =>
      (∀ c : Dev ReferenceIdeal.nD, r.2.mem ((c : Thread ReferenceIdeal.nD ReferenceIdeal.τ).loc ReferenceIdeal.main_arg0)
            = m ((c : Thread ReferenceIdeal.nD ReferenceIdeal.τ).loc ReferenceIdeal.main_arg0)
          ∧ r.2.mem ((c : Thread ReferenceIdeal.nD ReferenceIdeal.τ).loc ReferenceIdeal.main_arg1)
            = m ((c : Thread ReferenceIdeal.nD ReferenceIdeal.τ).loc ReferenceIdeal.main_arg1))
        ∧ r.2.sem = fun _ => 0) := (θ_run ReferenceIdeal.defs _ _).mono
  (fun r h => ⟨fun c => (h c).2, Idealize.ShloMosaic.sem_eq_zero_of_no_sems (by decide) r.2⟩) (ReferenceIdeal.Value.run (F := Ideal) m ρ)

/-! ## The 24 tables -/

theorem sends_0123 : Cleared Pre_sends_0123_Kernel.lit0 := cleared (by decide)
theorem sends_0132 : Cleared Pre_sends_0132_Kernel.lit0 := cleared (by decide)
theorem sends_0213 : Cleared Pre_sends_0213_Kernel.lit0 := cleared (by decide)
theorem sends_0231 : Cleared Pre_sends_0231_Kernel.lit0 := cleared (by decide)
theorem sends_0312 : Cleared Pre_sends_0312_Kernel.lit0 := cleared (by decide)
theorem sends_0321 : Cleared Pre_sends_0321_Kernel.lit0 := cleared (by decide)
theorem sends_1023 : Cleared Pre_sends_1023_Kernel.lit0 := cleared (by decide)
theorem sends_1032 : Cleared Pre_sends_1032_Kernel.lit0 := cleared (by decide)
theorem sends_1203 : Cleared Pre_sends_1203_Kernel.lit0 := cleared (by decide)
theorem sends_1230 : Cleared Pre_sends_1230_Kernel.lit0 := cleared (by decide)
theorem sends_1302 : Cleared Pre_sends_1302_Kernel.lit0 := cleared (by decide)
theorem sends_1320 : Cleared Pre_sends_1320_Kernel.lit0 := cleared (by decide)
theorem sends_2013 : Cleared Pre_sends_2013_Kernel.lit0 := cleared (by decide)
theorem sends_2031 : Cleared Pre_sends_2031_Kernel.lit0 := cleared (by decide)
theorem sends_2103 : Cleared Pre_sends_2103_Kernel.lit0 := cleared (by decide)
theorem sends_2130 : Cleared Pre_sends_2130_Kernel.lit0 := cleared (by decide)
theorem sends_2301 : Cleared Pre_sends_2301_Kernel.lit0 := cleared (by decide)
theorem sends_2310 : Cleared Pre_sends_2310_Kernel.lit0 := cleared (by decide)
theorem sends_3012 : Cleared Pre_sends_3012_Kernel.lit0 := cleared (by decide)
theorem sends_3021 : Cleared Pre_sends_3021_Kernel.lit0 := cleared (by decide)
theorem sends_3102 : Cleared Pre_sends_3102_Kernel.lit0 := cleared (by decide)
theorem sends_3120 : Cleared Pre_sends_3120_Kernel.lit0 := cleared (by decide)
theorem sends_3201 : Cleared Pre_sends_3201_Kernel.lit0 := cleared (by decide)
theorem sends_3210 : Cleared Pre_sends_3210_Kernel.lit0 := cleared (by decide)

theorem claim : Cert.Claim := ⟨
  Cert.Kernel.Gen.facts, Cert.KernelIdeal.Gen.facts, Cert.ReferenceIdeal.Gen.facts, ⟨⟩, ⟨⟩, ⟨⟩, ⟨⟩, ⟨⟩, ⟨⟩, ⟨⟩, ⟨⟩, ⟨⟩, ⟨⟩,
  ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩, ⟨⟩,
  ⟨⟩, ⟨⟩, ⟨⟩, ⟨⟩, ⟨⟩, ⟨⟩, ⟨⟩, ⟨⟩,
  sends_0123.1, sends_0132.1, sends_0213.1, sends_0231.1, sends_0312.1, sends_0321.1, sends_1023.1, sends_1032.1,
  sends_1203.1, sends_1230.1, sends_1302.1, sends_1320.1, sends_2013.1, sends_2031.1, sends_2103.1, sends_2130.1,
  sends_2301.1, sends_2310.1, sends_3012.1, sends_3021.1, sends_3102.1, sends_3120.1, sends_3201.1, sends_3210.1,
  sends_0123.2.1, sends_0132.2.1, sends_0213.2.1, sends_0231.2.1, sends_0312.2.1, sends_0321.2.1, sends_1023.2.1,
  sends_1032.2.1, sends_1203.2.1, sends_1230.2.1, sends_1302.2.1, sends_1320.2.1, sends_2013.2.1, sends_2031.2.1,
  sends_2103.2.1, sends_2130.2.1, sends_2301.2.1, sends_2310.2.1, sends_3012.2.1, sends_3021.2.1, sends_3102.2.1,
  sends_3120.2.1, sends_3201.2.1, sends_3210.2.1, reference, reference, reference, reference, reference, reference,
  reference, reference, reference, reference, reference, reference, reference, reference, reference, reference, reference,
  reference, reference, reference, reference, reference, reference, reference, reference, trivial, sends_0123.2.2,
  sends_0132.2.2, sends_0213.2.2, sends_0231.2.2, sends_0312.2.2, sends_0321.2.2, sends_1023.2.2, sends_1032.2.2,
  sends_1203.2.2, sends_1230.2.2, sends_1302.2.2, sends_1320.2.2, sends_2013.2.2, sends_2031.2.2, sends_2103.2.2,
  sends_2130.2.2, sends_2301.2.2, sends_2310.2.2, sends_3012.2.2, sends_3021.2.2, sends_3102.2.2, sends_3120.2.2,
  sends_3201.2.2, sends_3210.2.2⟩

end Cert.Proof

end
